-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_root" .f32 0x3DB504F3#32 (((Real.sqrt 128)⁻¹ : ℝ) : EReal)
  ∧ IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
-- ==== Pre_finite_scores.lean ====
abbrev S1x2048x2048 : Shape := ⟨3, ![1, 2048, 2048]⟩
abbrev S1x2048 : Shape := ⟨2, ![1, 2048]⟩
abbrev S2048x2048 : Shape := ⟨2, ![2048, 2048]⟩
abbrev S_ : Shape := ⟨0, ![]⟩

class Facts : Prop where
  shapeCasts_S1x2048x2048_S2048x2048 : S1x2048x2048.ShapeCasts S2048x2048
  bcast_S_S2048x2048 : S_.BroadcastsInDim S2048x2048 (![] : Fin 0 → Fin S2048x2048.rank)

variable [Facts]

def fn {F : FTy → Type} [FloatOps F] (main_arg0 : FVec F S1x2048x2048 .f32) (main_arg1 : IVec S1x2048 32) (main_arg2 : FVec F S2048x2048 .f32) (main_arg3 : FVec F S2048x2048 .f32) (main_arg4 : FVec F S2048x2048 .f32) (main_arg5 : FVec F S2048x2048 .f32) : IVec S2048x2048 1 :=
  let main_v0 : FVec F S2048x2048 .f32 := shapeCast S2048x2048 main_arg0 shapeCasts_S1x2048x2048_S2048x2048
  let main_v1 : FVec F S2048x2048 .f32 := Host.absf main_v0
  let main_cst : FVec F S_ .f32 := constant S_ .f32 0x7F800000#32
  let main_v2 : FVec F S2048x2048 .f32 := broadcastInDim S2048x2048 ![] bcast_S_S2048x2048 main_cst
  let main_v3 : IVec S2048x2048 1 := cmpf .olt main_v1 main_v2
  let main_v4 : FVec F S2048x2048 .f32 := Host.absf main_arg2
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_v7 : IVec S2048x2048 1 := andi main_v3 main_v6
  let main_v8 : FVec F S2048x2048 .f32 := Host.absf main_arg3
  let main_cst_1 : FVec F S_ .f32 := constant S_ .f32 0x7F800000#32
  let main_v9 : FVec F S2048x2048 .f32 := broadcastInDim S2048x2048 ![] bcast_S_S2048x2048 main_cst_1
  let main_v10 : IVec S2048x2048 1 := cmpf .olt main_v8 main_v9
  let main_v11 : IVec S2048x2048 1 := andi main_v7 main_v10
  main_v11
-- ==== Kernel.lean ====
abbrev S1x2048x2048 : Shape := ⟨3, ![1, 2048, 2048]⟩
abbrev S1x2048 : Shape := ⟨2, ![1, 2048]⟩
abbrev S2048x2048 : Shape := ⟨2, ![2048, 2048]⟩
abbrev S2048 : Shape := ⟨1, ![2048]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S128x2048 : Shape := ⟨2, ![128, 2048]⟩
abbrev S256x128 : Shape := ⟨2, ![256, 128]⟩
abbrev S256x2048 : Shape := ⟨2, ![256, 2048]⟩
abbrev S256 : Shape := ⟨1, ![256]⟩
abbrev S256x1 : Shape := ⟨2, ![256, 1]⟩

abbrev nBuf : Space → Nat
  | .hbm => 44
  | .vmem => 34
  | .smem => 0
  | _ => 0

abbrev bufTy : (tb : Table) → Fin (tcTables nBuf tb) → BufTy
  | .hbm, ⟨0, _⟩ => ⟨S1x2048x2048, .f32⟩
  | .hbm, ⟨1, _⟩ => ⟨S1x2048, .i32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | .hbm, ⟨8, _⟩ => ⟨S2048x2048, .bf16⟩
  | .hbm, ⟨9, _⟩ => ⟨S2048x2048, .bf16⟩
  | .hbm, ⟨10, _⟩ => ⟨S2048x2048, .bf16⟩
  | .hbm, ⟨11, _⟩ => ⟨S2048x2048, .bf16⟩
  | .hbm, ⟨12, _⟩ => ⟨S2048, .i32⟩
  | .hbm, ⟨13, _⟩ => ⟨S2048, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S64, .f32⟩
  | .hbm, ⟨29, _⟩ => ⟨S64, .f32⟩
  | .hbm, ⟨30, _⟩ => ⟨S2048x1, .f32⟩
  | .hbm, ⟨31, _⟩ => ⟨S1x64, .f32⟩
  | .hbm, ⟨32, _⟩ => ⟨S2048x64, .f32⟩
  | .hbm, ⟨33, _⟩ => ⟨S2048x64, .f32⟩
  | .hbm, ⟨34, _⟩ => ⟨S2048x64, .f32⟩
  | .hbm, ⟨35, _⟩ => ⟨S2048x128, .f32⟩
  | .hbm, ⟨36, _⟩ => ⟨S2048x128, .f32⟩
  | .hbm, ⟨37, _⟩ => ⟨S2048x128, .f32⟩
  | .hbm, ⟨38, _⟩ => ⟨S2048x2048, .bf16⟩
  | .hbm, ⟨39, _⟩ => ⟨S2048x2048, .bf16⟩
  | .hbm, ⟨40, _⟩ => ⟨S2048x2048, .bf16⟩
  | .hbm, ⟨41, _⟩ => ⟨S2048x2048, .bf16⟩
  | .hbm, ⟨42, _⟩ => ⟨S2048x2048, .f32⟩
  | .hbm, ⟨43, _⟩ => ⟨S1x2048x2048, .f32⟩
  | .local _ .vmem, ⟨0, _⟩ => ⟨S2048x2048, .bf16⟩
  | .local _ .vmem, ⟨1, _⟩ => ⟨S128x2048, .bf16⟩
  | .local _ .vmem, ⟨2, _⟩ => ⟨S128x2048, .bf16⟩
  | .local _ .vmem, ⟨3, _⟩ => ⟨S2048x128, .f32⟩
  | .local _ .vmem, ⟨4, _⟩ => ⟨S2048x128, .f32⟩
  | .local _ .vmem, ⟨5, _⟩ => ⟨S2048x128, .bf16⟩
  | .local _ .vmem, ⟨6, _⟩ => ⟨S2048x128, .bf16⟩
  | .local _ .vmem, ⟨7, _⟩ => ⟨S2048x2048, .bf16⟩
  | .local _ .vmem, ⟨8, _⟩ => ⟨S128x2048, .bf16⟩
  | .local _ .vmem, ⟨9, _⟩ => ⟨S128x2048, .bf16⟩
  | .local _ .vmem, ⟨10, _⟩ => ⟨S2048x128, .f32⟩
  | .local _ .vmem, ⟨11, _⟩ => ⟨S2048x128, .f32⟩
  | .local _ .vmem, ⟨12, _⟩ => ⟨S2048x128, .bf16⟩
  | .local _ .vmem, ⟨13, _⟩ => ⟨S2048x128, .bf16⟩
  | .local _ .vmem, ⟨14, _⟩ => ⟨S2048x2048, .bf16⟩
  | .local _ .vmem, ⟨15, _⟩ => ⟨S128x2048, .bf16⟩
  | .local _ .vmem, ⟨16, _⟩ => ⟨S128x2048, .bf16⟩
  | .local _ .vmem, ⟨17, _⟩ => ⟨S2048x128, .f32⟩
  | .local _ .vmem, ⟨18, _⟩ => ⟨S2048x128, .f32⟩
  | .local _ .vmem, ⟨19, _⟩ => ⟨S2048x128, .bf16⟩
  | .local _ .vmem, ⟨20, _⟩ => ⟨S2048x128, .bf16⟩
  | .local _ .vmem, ⟨21, _⟩ => ⟨S256x128, .bf16⟩
  | .local _ .vmem, ⟨22, _⟩ => ⟨S256x128, .bf16⟩
  | .local _ .vmem, ⟨23, _⟩ => ⟨S2048x128, .bf16⟩
  | .local _ .vmem, ⟨24, _⟩ => ⟨S2048x128, .bf16⟩
  | .local _ .vmem, ⟨25, _⟩ => ⟨S2048x128, .bf16⟩
  | .local _ .vmem, ⟨26, _⟩ => ⟨S2048x128, .bf16⟩
  | .local _ .vmem, ⟨27, _⟩ => ⟨S256x128, .bf16⟩
  | .local _ .vmem, ⟨28, _⟩ => ⟨S256x128, .bf16⟩
  | .local _ .vmem, ⟨29, _⟩ => ⟨S2048x2048, .bf16⟩
  | .local _ .vmem, ⟨30, _⟩ => ⟨S128x2048, .bf16⟩
  | .local _ .vmem, ⟨31, _⟩ => ⟨S128x2048, .bf16⟩
  | .local _ .vmem, ⟨32, _⟩ => ⟨S2048x128, .f32⟩
  | .local _ .vmem, ⟨33, _⟩ => ⟨S2048x128, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc4_stg0_0 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem3_1 : DmaSem sig := 28
abbrev cc4_sem0_0 : DmaSem sig := 29
abbrev cc4_sem1_0 : DmaSem sig := 30
abbrev cc4_sem1_1 : DmaSem sig := 31
abbrev cc4_sem2_0 : DmaSem sig := 32
abbrev cc4_sem2_1 : DmaSem sig := 33

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S2048x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S128x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2048x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2048x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2048x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S2048x2048 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S128x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S2048x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2048x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2048x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨2, ![16, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S256x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S2048x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S256x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 1 → Memref sig .tc .vmem S2048x2048 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 2 → Memref sig .tc .vmem S128x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2048x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]
-- ==== KernelIdeal.lean ====
variable {F : FTy → Type} [FloatOps F] [Named F]
def κ : String → Option EReal := fun
  | "inv_root" => some (((Real.sqrt 128)⁻¹ : ℝ) : EReal)
  | "mask" => some ⊥
  | _ => none
-- ==== ReferenceIdeal.lean ====
abbrev S1x2048x2048 : Shape := ⟨3, ![1, 2048, 2048]⟩
abbrev S1x2048 : Shape := ⟨2, ![1, 2048]⟩
abbrev S2048x2048 : Shape := ⟨2, ![2048, 2048]⟩
abbrev S1x2048x16x128 : Shape := ⟨4, ![1, 2048, 16, 128]⟩
abbrev S1x16x2048x128 : Shape := ⟨4, ![1, 16, 2048, 128]⟩
abbrev S64 : Shape := ⟨1, ![64]⟩
abbrev S_ : Shape := ⟨0, ![]⟩
abbrev S1x2048x1 : Shape := ⟨3, ![1, 2048, 1]⟩
abbrev S1x1x64 : Shape := ⟨3, ![1, 1, 64]⟩
abbrev S1x2048x64 : Shape := ⟨3, ![1, 2048, 64]⟩
abbrev S1x2048x128 : Shape := ⟨3, ![1, 2048, 128]⟩
abbrev S1x1x2048x128 : Shape := ⟨4, ![1, 1, 2048, 128]⟩
abbrev S1x16x2048x64 : Shape := ⟨4, ![1, 16, 2048, 64]⟩
abbrev S2048 : Shape := ⟨1, ![2048]⟩
abbrev S2048x1 : Shape := ⟨2, ![2048, 1]⟩
abbrev S1x16x2048x2048 : Shape := ⟨4, ![1, 16, 2048, 2048]⟩
abbrev S1x1x2048x2048 : Shape := ⟨4, ![1, 1, 2048, 2048]⟩
abbrev S32768x2048 : Shape := ⟨2, ![32768, 2048]⟩
abbrev S32768 : Shape := ⟨1, ![32768]⟩
abbrev S32768x1 : Shape := ⟨2, ![32768, 1]⟩
abbrev S32768x2048x1 : Shape := ⟨3, ![32768, 2048, 1]⟩
abbrev S32768x2048x2 : Shape := ⟨3, ![32768, 2048, 2]⟩
abbrev S1x16x2048 : Shape := ⟨3, ![1, 16, 2048]⟩
abbrev S1x16x2048x1 : Shape := ⟨4, ![1, 16, 2048, 1]⟩

abbrev nBuf : Space → Nat
  | .hbm => 168
  | .vmem => 0
  | .smem => 0
  | _ => 0

abbrev hbmTy0_0 (i : Nat) : BufTy := match i % 128 with
  | 0 => ⟨S1x2048x2048, .f32⟩
  | 1 => ⟨S1x2048, .i32⟩
  | 2 => ⟨S2048x2048, .f32⟩
  | 3 => ⟨S2048x2048, .f32⟩
  | 4 => ⟨S2048x2048, .f32⟩
  | 5 => ⟨S2048x2048, .f32⟩
  | 6 => ⟨S2048x2048, .f32⟩
  | 7 => ⟨S1x2048x2048, .f32⟩
  | 8 => ⟨S1x2048x16x128, .f32⟩
  | 9 => ⟨S1x16x2048x128, .f32⟩
  | 10 => ⟨S2048x2048, .f32⟩
  | 11 => ⟨S1x2048x2048, .f32⟩
  | 12 => ⟨S1x2048x16x128, .f32⟩
  | 13 => ⟨S1x16x2048x128, .f32⟩
  | 14 => ⟨S2048x2048, .f32⟩
  | 15 => ⟨S1x2048x2048, .f32⟩
  | 16 => ⟨S1x2048x16x128, .f32⟩
  | 17 => ⟨S1x16x2048x128, .f32⟩
  | 18 => ⟨S64, .f32⟩
  | 19 => ⟨S_, .f32⟩
  | 20 => ⟨S64, .f32⟩
  | 21 => ⟨S64, .f32⟩
  | 22 => ⟨S_, .f32⟩
  | 23 => ⟨S64, .f32⟩
  | 24 => ⟨S64, .f32⟩
  | 25 => ⟨S_, .f32⟩
  | 26 => ⟨S64, .f32⟩
  | 27 => ⟨S64, .f32⟩
  | 28 => ⟨S_, .f32⟩
  | 29 => ⟨S64, .f32⟩
  | 30 => ⟨S64, .f32⟩
  | 31 => ⟨S_, .f32⟩
  | 32 => ⟨S64, .f32⟩
  | 33 => ⟨S64, .f32⟩
  | 34 => ⟨S1x2048, .f32⟩
  | 35 => ⟨S1x2048x1, .f32⟩
  | 36 => ⟨S1x1x64, .f32⟩
  | 37 => ⟨S1x2048x64, .f32⟩
  | 38 => ⟨S1x2048x64, .f32⟩
  | 39 => ⟨S1x2048x64, .f32⟩
  | 40 => ⟨S1x2048x128, .f32⟩
  | 41 => ⟨S1x2048x128, .f32⟩
  | 42 => ⟨S1x1x2048x128, .f32⟩
  | 43 => ⟨S1x2048x128, .f32⟩
  | 44 => ⟨S1x1x2048x128, .f32⟩
  | 45 => ⟨S1x16x2048x128, .f32⟩
  | 46 => ⟨S1x16x2048x128, .f32⟩
  | 47 => ⟨S1x16x2048x64, .f32⟩
  | 48 => ⟨S1x16x2048x64, .f32⟩
  | 49 => ⟨S1x16x2048x64, .f32⟩
  | 50 => ⟨S1x16x2048x128, .f32⟩
  | 51 => ⟨S1x16x2048x128, .f32⟩
  | 52 => ⟨S1x16x2048x128, .f32⟩
  | 53 => ⟨S1x16x2048x128, .f32⟩
  | 54 => ⟨S1x16x2048x128, .f32⟩
  | 55 => ⟨S1x16x2048x128, .f32⟩
  | 56 => ⟨S1x16x2048x64, .f32⟩
  | 57 => ⟨S1x16x2048x64, .f32⟩
  | 58 => ⟨S1x16x2048x64, .f32⟩
  | 59 => ⟨S1x16x2048x128, .f32⟩
  | 60 => ⟨S1x16x2048x128, .f32⟩
  | 61 => ⟨S1x16x2048x128, .f32⟩
  | 62 => ⟨S1x16x2048x128, .f32⟩
  | 63 => ⟨S2048, .i32⟩
  | 64 => ⟨S2048x1, .i32⟩
  | 65 => ⟨S2048, .i32⟩
  | 66 => ⟨S1x2048, .i32⟩
  | 67 => ⟨S_, .i32⟩
  | 68 => ⟨S2048x1, .i32⟩
  | 69 => ⟨S2048x1, .i32⟩
  | 70 => ⟨S2048x2048, .i32⟩
  | 71 => ⟨S2048x2048, .i32⟩
  | 72 => ⟨S2048x2048, .i1⟩
  | 73 => ⟨S2048x2048, .i32⟩
  | 74 => ⟨S2048x2048, .i32⟩
  | 75 => ⟨S2048x2048, .i1⟩
  | 76 => ⟨S2048x2048, .i1⟩
  | 77 => ⟨S_, .i32⟩
  | 78 => ⟨S1x2048, .i32⟩
  | 79 => ⟨S1x2048, .i1⟩
  | 80 => ⟨S2048x2048, .i32⟩
  | 81 => ⟨S2048x2048, .i32⟩
  | 82 => ⟨S2048x2048, .i1⟩
  | 83 => ⟨S2048x2048, .i1⟩
  | 84 => ⟨S2048x2048, .i1⟩
  | 85 => ⟨S1x16x2048x2048, .f32⟩
  | 86 => ⟨S_, .f32⟩
  | 87 => ⟨S_, .f32⟩
  | 88 => ⟨S1x16x2048x2048, .f32⟩
  | 89 => ⟨S1x16x2048x2048, .f32⟩
  | 90 => ⟨S_, .i1⟩
  | 91 => ⟨S2048x2048, .i1⟩
  | 92 => ⟨S2048x2048, .i32⟩
  | 93 => ⟨S_, .i32⟩
  | 94 => ⟨S2048x2048, .i32⟩
  | 95 => ⟨S2048x2048, .i32⟩
  | 96 => ⟨S2048x2048, .i32⟩
  | 97 => ⟨S2048x2048, .i1⟩
  | 98 => ⟨S_, .i1⟩
  | 99 => ⟨S2048x2048, .i1⟩
  | 100 => ⟨S2048x2048, .i1⟩
  | 101 => ⟨S1x1x2048x2048, .i1⟩
  | 102 => ⟨S_, .f32⟩
  | 103 => ⟨S_, .f32⟩
  | 104 => ⟨S1x16x2048x2048, .i1⟩
  | 105 => ⟨S1x16x2048x2048, .f32⟩
  | 106 => ⟨S1x16x2048x2048, .f32⟩
  | 107 => ⟨S32768x2048, .f32⟩
  | 108 => ⟨S32768x2048, .f32⟩
  | 109 => ⟨S32768x2048, .i32⟩
  | 110 => ⟨S32768, .i32⟩
  | 111 => ⟨S32768x1, .i32⟩
  | 112 => ⟨S_, .i1⟩
  | 113 => ⟨S32768x2048, .i1⟩
  | 114 => ⟨S_, .i32⟩
  | 115 => ⟨S32768x1, .i32⟩
  | 116 => ⟨S32768x1, .i1⟩
  | 117 => ⟨S_, .i32⟩
  | 118 => ⟨S32768x1, .i32⟩
  | 119 => ⟨S32768x1, .i32⟩
  | 120 => ⟨S32768x1, .i32⟩
  | 121 => ⟨S_, .i32⟩
  | 122 => ⟨S32768x2048, .i32⟩
  | 123 => ⟨S32768x2048, .i1⟩
  | 124 => ⟨S_, .i32⟩
  | 125 => ⟨S32768x2048, .i32⟩
  | 126 => ⟨S32768x2048, .i32⟩
  | 127 => ⟨S32768x2048, .i32⟩
  | _ => ⟨S1x2048x2048, .f32⟩

abbrev hbmTy0_1 (i : Nat) : BufTy := match i % 128 with
  | 0 => ⟨S32768x2048, .i32⟩
  | 1 => ⟨S32768x2048x1, .i32⟩
  | 2 => ⟨S32768x2048x1, .i32⟩
  | 3 => ⟨S32768x2048x2, .i32⟩
  | 4 => ⟨S_, .i1⟩
  | 5 => ⟨S32768x2048, .i1⟩
  | 6 => ⟨S32768x2048, .i1⟩
  | 7 => ⟨S1x16x2048x2048, .i1⟩
  | 8 => ⟨S1x1x2048x2048, .i1⟩
  | 9 => ⟨S1x16x2048x2048, .i1⟩
  | 10 => ⟨S1x16x2048x2048, .i1⟩
  | 11 => ⟨S1x1x2048x2048, .i1⟩
  | 12 => ⟨S1x16x2048x2048, .i1⟩
  | 13 => ⟨S1x16x2048x2048, .i1⟩
  | 14 => ⟨S1x1x2048x2048, .i1⟩
  | 15 => ⟨S1x16x2048x2048, .i1⟩
  | 16 => ⟨S1x16x2048x2048, .i1⟩
  | 17 => ⟨S_, .f32⟩
  | 18 => ⟨S_, .f32⟩
  | 19 => ⟨S1x16x2048x2048, .f32⟩
  | 20 => ⟨S1x16x2048x2048, .f32⟩
  | 21 => ⟨S_, .f32⟩
  | 22 => ⟨S1x16x2048, .f32⟩
  | 23 => ⟨S_, .f32⟩
  | 24 => ⟨S1x16x2048, .f32⟩
  | 25 => ⟨S1x16x2048, .f32⟩
  | 26 => ⟨S1x16x2048x1, .f32⟩
  | 27 => ⟨S1x16x2048x2048, .f32⟩
  | 28 => ⟨S1x16x2048x2048, .f32⟩
  | 29 => ⟨S1x16x2048x2048, .f32⟩
  | 30 => ⟨S_, .f32⟩
  | 31 => ⟨S1x16x2048, .f32⟩
  | 32 => ⟨S1x16x2048x1, .f32⟩
  | 33 => ⟨S1x16x2048x2048, .f32⟩
  | 34 => ⟨S1x16x2048x2048, .f32⟩
  | 35 => ⟨S1x16x2048x128, .f32⟩
  | 36 => ⟨S1x2048x16x128, .f32⟩
  | 37 => ⟨S1x2048x2048, .f32⟩
  | 38 => ⟨S2048x2048, .f32⟩
  | 39 => ⟨S1x2048x2048, .f32⟩
  | _ => ⟨S1x2048x2048, .f32⟩

abbrev hbmTy (i : Nat) : BufTy := match i / 128 with
  | 0 => hbmTy0_0 i
  | 1 => hbmTy0_1 i
  | _ => ⟨S1x2048x2048, .f32⟩

abbrev bufTy : (tb : Table) → Fin (tcTables nBuf tb) → BufTy
  | .hbm, ⟨i, _⟩ => hbmTy i
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_c : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_c_4 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_cst_5 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_c_6 : Ref sig .tc := ⟨.hbm, 90, rfl⟩
abbrev main_v76 : Ref sig .tc := ⟨.hbm, 91, rfl⟩
abbrev main_call0_v0 : Ref sig .tc := ⟨.hbm, 92, rfl⟩
abbrev main_call0_c : Ref sig .tc := ⟨.hbm, 93, rfl⟩
abbrev main_call0_v1 : Ref sig .tc := ⟨.hbm, 94, rfl⟩
abbrev main_call0_v2 : Ref sig .tc := ⟨.hbm, 95, rfl⟩
abbrev main_call0_v3 : Ref sig .tc := ⟨.hbm, 96, rfl⟩
abbrev main_call0_v4 : Ref sig .tc := ⟨.hbm, 97, rfl⟩
abbrev main_call0_c_0 : Ref sig .tc := ⟨.hbm, 98, rfl⟩
abbrev main_call0_v5 : Ref sig .tc := ⟨.hbm, 99, rfl⟩
abbrev main_v77 : Ref sig .tc := ⟨.hbm, 100, rfl⟩
abbrev main_v78 : Ref sig .tc := ⟨.hbm, 101, rfl⟩
abbrev main_cst_7 : Ref sig .tc := ⟨.hbm, 102, rfl⟩
abbrev main_call1_v0 : Ref sig .tc := ⟨.hbm, 103, rfl⟩
abbrev main_call1_v1 : Ref sig .tc := ⟨.hbm, 104, rfl⟩
abbrev main_call1_v2 : Ref sig .tc := ⟨.hbm, 105, rfl⟩
abbrev main_v79 : Ref sig .tc := ⟨.hbm, 106, rfl⟩
abbrev main_v80 : Ref sig .tc := ⟨.hbm, 107, rfl⟩
abbrev main_values : Ref sig .tc := ⟨.hbm, 108, rfl⟩
abbrev main_indices : Ref sig .tc := ⟨.hbm, 109, rfl⟩
abbrev main_v81 : Ref sig .tc := ⟨.hbm, 110, rfl⟩
abbrev main_v82 : Ref sig .tc := ⟨.hbm, 111, rfl⟩
abbrev main_c_8 : Ref sig .tc := ⟨.hbm, 112, rfl⟩
abbrev main_v83 : Ref sig .tc := ⟨.hbm, 113, rfl⟩
abbrev main_c_9 : Ref sig .tc := ⟨.hbm, 114, rfl⟩
abbrev main_v84 : Ref sig .tc := ⟨.hbm, 115, rfl⟩
abbrev main_v85 : Ref sig .tc := ⟨.hbm, 116, rfl⟩
abbrev main_c_10 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_c_11 : Ref sig .tc := ⟨.hbm, 121, rfl⟩
abbrev main_v89 : Ref sig .tc := ⟨.hbm, 122, rfl⟩
abbrev main_v90 : Ref sig .tc := ⟨.hbm, 123, rfl⟩
abbrev main_c_12 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_c_13 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_cst_14 : Ref sig .tc := ⟨.hbm, 145, rfl⟩
abbrev main_call2_v0 : Ref sig .tc := ⟨.hbm, 146, rfl⟩
abbrev main_call2_v1 : Ref sig .tc := ⟨.hbm, 147, rfl⟩
abbrev main_v110 : Ref sig .tc := ⟨.hbm, 148, rfl⟩
abbrev main_cst_15 : Ref sig .tc := ⟨.hbm, 149, rfl⟩
abbrev main_v111 : Ref sig .tc := ⟨.hbm, 150, rfl⟩
abbrev main_cst_16 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_cst_17 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩

abbrev nD : Nat := 1
abbrev τ : Topo := Topo.v7x

variable {F : FTy → Type} [FloatOps F]
-- ==== Proof.KRun.lean ====
module

public import proofs.«01_k».proof.Proof.Gen.KernelIdeal.Frame

@[expose] public section

set_option maxRecDepth 16384

noncomputable section

/-! The run of the kernel with its result: the frame's launch, its last state read at the result array as well. -/

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]
variable (m : (ℓ : Loc nD τ sig) → Buf (Elt F) ℓ) (ρ : Dev nD → PrngReg)

set_option backward.isDefEq.respectTransparency.types false in
/-- Every execution of the kernel's program ends with the result array at the last boundary's contents and every argument
    array unchanged. -/
theorem run : θ_run defs (onTc (τ := τ) (main (F := F))) ⟨m, fun _ => 0, ρ⟩ (fun r => ∀ c : Dev nD,
      r.2.mem ((c.tc : Thread nD τ).loc main_v32) = W7 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => fun c =>
      ⟨h c _ (mem_uc main_v32 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Val

end
-- ==== Proof.Spec.lean ====
module

public import Idealize.ShloMosaic.PureOps.Ideal
public import Mathlib.Algebra.BigOperators.Fin

@[expose] public section

noncomputable section

/-! The attention layer written at coordinates: sequence position, feature column `128 · head + lane`, over the extended
    reals. Both programs are compared with these functions. -/

namespace Cert.Attn

open Idealize.ShloMosaic

/-- A table of extended reals. -/
abbrev Mat (a b : ℕ) := Fin a → Fin b → EReal

/-- A projection: row `s` of the activations against row `n` of the weights. -/
def proj (x w : Mat 2048 2048) : Mat 2048 2048 := fun s n => ∑ k : Fin 2048, x s k * w n k

/-- The lane of a feature column inside its head. -/
def lane (n : Fin 2048) : Fin 128 := ⟨n.val % 128, Nat.mod_lt _ (by decide)⟩

/-- The lane's partner half a head above. -/
def up (n : Fin 2048) (h : n.val % 128 < 64) : Fin 2048 := ⟨n.val + 64, by omega⟩

/-- The lane's partner half a head below. -/
def down (n : Fin 2048) : Fin 2048 := ⟨n.val - 64, by omega⟩

/-- A row rotated by a quarter turn in every head: the upper half negated in front of the lower half. -/
def rot (y : Fin 2048 → EReal) (n : Fin 2048) : EReal :=
  if h : n.val % 128 < 64 then -(y (up n h)) else y (down n)

/-- The rotary embedding with cosine table `c` and sine table `d`. -/
def rope (y : Mat 2048 2048) (c d : Mat 2048 128) : Mat 2048 2048 :=
  fun s n => y s n * c s (lane n) + rot (y s) n * d s (lane n)

/-- The inverse frequency of a lane of the lower half. -/
def freq (j : ℕ) : EReal :=
  Ideal.div 1 (Ideal.pow (Ideal.ofBits .f32 0x461C4000#32)
    (Ideal.div (Ideal.ofBits .f32 0x40000000#32 * FloatOps.sitofp (F := Ideal) .f32 (BitVec.ofNat 32 j)) (Ideal.ofBits .f32 0x43000000#32)))

/-- The angle of position `s` at a lane: the position times the lane's inverse frequency, the same in both halves. -/
def ang (p : Fin 2048 → BitVec 32) : Mat 2048 128 := fun s d =>
  FloatOps.sitofp (F := Ideal) .f32 (p s) * freq (if d.val < 64 then d.val else d.val - 64)

/-- The column of lane `d` in head `h`. -/
def col (h : Fin 16) (d : Fin 128) : Fin 2048 := ⟨h.val * 128 + d.val, by omega⟩

/-- The head of a column. -/
def head (n : Fin 2048) : Fin 16 := ⟨n.val / 128, by omega⟩

/-- The inner product of query row `i` with key row `j` in head `h`. -/
def dotp (q k : Mat 2048 2048) (h : Fin 16) : Mat 2048 2048 :=
  fun i j => ∑ d : Fin 128, q i (col h d) * k j (col h d)

/-- The scaled scores of one head below the diagonal, minus infinity above it. -/
def score (q k : Mat 2048 2048) (h : Fin 16) : Mat 2048 2048 :=
  fun i j => if j.val ≤ i.val then dotp q k h i j * (((Real.sqrt 128)⁻¹ : ℝ) : EReal) else ⊥

/-- The greatest entry of a row. -/
def top (s : Fin 2048 → EReal) : EReal := Finset.univ.fold max ⊥ fun k => s k

/-- The row's weights before normalisation. -/
def wt (s : Fin 2048 → EReal) (k : Fin 2048) : EReal := Ideal.exp (s k - top s)

/-- One entry of the attention output: weighted values summed, then divided by the sum of the weights. -/
def att (s v : Fin 2048 → EReal) : EReal := Ideal.div (∑ k, wt s k * v k) (∑ k, wt s k)

/-- All attention outputs. -/
def attn (q k v : Mat 2048 2048) : Mat 2048 2048 :=
  fun i n => att (score q k (head n) i) (fun j => v j n)

/-- The layer's result from the activations, the positions and the four weights. -/
def layer (x : Mat 2048 2048) (p : Fin 2048 → BitVec 32) (q k v o : Mat 2048 2048) : Mat 2048 2048 :=
  proj (attn (rope (proj x q) (fun s d => Ideal.cos (ang p s d)) (fun s d => Ideal.sin (ang p s d)))
    (rope (proj x k) (fun s d => Ideal.cos (ang p s d)) (fun s d => Ideal.sin (ang p s d))) (proj x v)) o

end Cert.Attn

end
-- ==== Proof.KPay.lean ====
module

public import proofs.«01_k».proof.Proof.Gen.KernelIdeal.Frame
public import proofs.«01_k».proof.Proof.Spec
public import Idealize.ShloMosaic.Lib.Pipeline.ValueKit

@[expose] public section

set_option maxRecDepth 16384

noncomputable section

/-! What the bodies of the three projection calls and of the output projection store, over their blocks. -/

namespace Cert.KernelIdeal.Val

open Idealize.ShloMosaic Idealize.ShloMosaic.TcCoe Idealize.SL.Sem
open Idealize.ShloMosaic.Pipeline (Dat)
open Cert.KernelIdeal Cert.KernelIdeal.Gen Cert.Attn

/-- A two-axis array read as a table. -/
abbrev mat {a b : ℕ} (x : (⟨2, ![a, b]⟩ : Shape).Idx → EReal) : Mat a b := fun i j => x (ix2 i j)

/-- The body of a rotated projection, over blocks that read the activations `X`, head `h` of the weights `W` and the tables
    `C`, `D`: it stores the rotary embedding of the projection, at the head's columns. -/
theorem rope_pay (h : Fin 16) (X W : Mat 2048 2048) (C D : Mat 2048 128)
    (x : FVec Ideal S2048x2048 .bf16) (w : FVec Ideal S128x2048 .bf16) (c d : FVec Ideal S2048x128 .f32)
    (hx : ∀ a b, x (ix2 a b) = X a b) (hw : ∀ a b, w (ix2 a b) = W (col h a) b)
    (hc : ∀ a b, c (ix2 a b) = C a b) (hd : ∀ a b, d (ix2 a b) = D a b) (y : S2048x128.Idx) :
    k0_pay1 (F := Ideal) x w c d y = rope (proj X W) C D (y 0) (col h (y 1)) := by
  idx_vars y
  pointwise [k0_pay1]
  have hl : lane (col h y1) = y1 := Fin.ext (by simp only [lane, col]; omega)
  have hm : (col h y1).val % 128 = y1.val := by simp only [col]; omega
  simp only [hx, hw, hc, hd]
  show _ = rope (proj X W) C D y0 (col h y1)
  simp only [rope, hl, rot, hm]
  congr 2
  by_cases hh : y1.val < 64
  · have e : (col h ⟨64 + y1.val, by omega⟩ : Fin 2048) = up (col h y1) (by omega) :=
      Fin.ext (by simp only [up, col]; omega)
    rw [dif_pos hh, dif_pos hh, e, zero_sub]; rfl
  · have e : (col h ⟨y1.val - 64, by omega⟩ : Fin 2048) = down (col h y1) :=
      Fin.ext (by simp only [down, col]; omega)
    rw [dif_neg hh, dif_neg hh, e]; rfl

/-- The body of a plain projection, likewise. -/
theorem proj_pay (h : Fin 16) (X W : Mat 2048 2048)
    (x : FVec Ideal S2048x2048 .bf16) (w : FVec Ideal S128x2048 .bf16)
    (hx : ∀ a b, x (ix2 a b) = X a b) (hw : ∀ a b, w (ix2 a b) = W (col h a) b) (y : S2048x128.Idx) :
    k2_pay1 (F := Ideal) x w y = proj X W (y 0) (col h (y 1)) := by
  idx_vars y
  pointwise [k2_pay1]
  simp only [hx, hw]
  rfl

/-- The body of the output projection, likewise. -/
theorem oproj_pay (h : Fin 16) (X W : Mat 2048 2048)
    (x : FVec Ideal S2048x2048 .bf16) (w : FVec Ideal S128x2048 .bf16)
    (hx : ∀ a b, x (ix2 a b) = X a b) (hw : ∀ a b, w (ix2 a b) = W (col h a) b) (y : S2048x128.Idx) :
    k4_pay1 (F := Ideal) x w y = proj X W (y 0) (col h (y 1)) := by
  idx_vars y
  pointwise [k4_pay1]
  simp only [hx, hw]
  rfl

end Cert.KernelIdeal.Val

end
-- ==== Proof.KVal.lean ====
module

public import proofs.«01_k».proof.Proof.Gen.KernelIdeal.Frame
public import proofs.«01_k».proof.Proof.KPay
public import Idealize.ShloMosaic.Lib.Pipeline.ValueKit

@[expose] public section

set_option maxRecDepth 16384

noncomputable section

/-! What the three projection calls and the output projection leave in their result arrays. -/

namespace Cert.KernelIdeal.Val

open Idealize.ShloMosaic Idealize.ShloMosaic.TcCoe Idealize.SL.Sem
open Idealize.ShloMosaic.Pipeline (Dat)
open Cert.KernelIdeal Cert.KernelIdeal.Gen Cert.Attn

variable (V : (c : Dev nD) → (b : Ref sig .tc) → Buf (Elt Ideal) ((c : Thread nD τ).loc b))

/-- The block indices of the query projection, at every point. -/
theorem idx0 : ∀ t : Fin cfg0.N, win0_0.index t = ![0, 0] ∧ win0_1.index t = ![t.val, 0] ∧ win0_2.index t = ![0, 0]
    ∧ win0_3.index t = ![0, 0] ∧ win0_4.index t = ![0, t.val] ∧ t.val < 16 :=
  (by decide +kernel : ∀ t : Fin grid0.N, _)

/-- The result array of the query projection. -/
theorem arr0 (c : Dev nD) : (dat0 V c).arrAt 4 cfg0.N = fun i : S2048x2048.Idx =>
    rope (proj (mat (V c main_v1)) (mat (V c main_v2))) (mat (V c main_v25)) (mat (V c main_v26)) (i 0) (i 1) := by
  refine (dat0 V c).arrAt_eq_of_covers 4 _ (by decide +kernel) fun t hf y => ?_
  have ht : t.val < 16 := (idx0 t).2.2.2.2.2
  blk_simp
  rw [after0_4]
  frame_out
  refine (rope_pay ⟨t.val, ht⟩ (mat (V c main_v1)) (mat (V c main_v2)) (mat (V c main_v25)) (mat (V c main_v26)) _ _ _ _
    (fun a b => ?_) (fun a b => ?_) (fun a b => ?_) (fun a b => ?_) y).trans ?_
  · show iblk0 V c 0 t (ix2 a b) = V c main_v1 (ix2 a b)
    blk_ext [iblk0, idx0 t]
  · show iblk0 V c 1 t (ix2 a b) = V c main_v2 (ix2 (⟨t.val * 128 + a.val, by omega⟩ : Fin 2048) b)
    blk_ext [iblk0, idx0 t]
  · show iblk0 V c 2 t (ix2 a b) = V c main_v25 (ix2 a b)
    blk_ext [iblk0, idx0 t]
  · show iblk0 V c 3 t (ix2 a b) = V c main_v26 (ix2 a b)
    blk_ext [iblk0, idx0 t]
  · refine congrArg₂ (rope (proj (mat (V c main_v1)) (mat (V c main_v2))) (mat (V c main_v25)) (mat (V c main_v26))) (Fin.ext ?_) (Fin.ext ?_)
    · blk_simp [idx0 t]
    · blk_simp [idx0 t, col]

/-- The block indices of the key projection, at every point. -/
theorem idx1 : ∀ t : Fin cfg1.N, win1_0.index t = ![0, 0] ∧ win1_1.index t = ![t.val, 0] ∧ win1_2.index t = ![0, 0]
    ∧ win1_3.index t = ![0, 0] ∧ win1_4.index t = ![0, t.val] ∧ t.val < 16 :=
  (by decide +kernel : ∀ t : Fin grid1.N, _)

/-- The result array of the key projection. -/
theorem arr1 (c : Dev nD) : (dat1 V c).arrAt 4 cfg1.N = fun i : S2048x2048.Idx =>
    rope (proj (mat (V c main_v1)) (mat (V c main_v3))) (mat (V c main_v25)) (mat (V c main_v26)) (i 0) (i 1) := by
  refine (dat1 V c).arrAt_eq_of_covers 4 _ (by decide +kernel) fun t hf y => ?_
  have ht : t.val < 16 := (idx1 t).2.2.2.2.2
  blk_simp
  rw [after1_4]
  frame_out
  refine (rope_pay ⟨t.val, ht⟩ (mat (V c main_v1)) (mat (V c main_v3)) (mat (V c main_v25)) (mat (V c main_v26)) _ _ _ _
    (fun a b => ?_) (fun a b => ?_) (fun a b => ?_) (fun a b => ?_) y).trans ?_
  · show iblk1 V c 0 t (ix2 a b) = V c main_v1 (ix2 a b)
    blk_ext [iblk1, idx1 t]
  · show iblk1 V c 1 t (ix2 a b) = V c main_v3 (ix2 (⟨t.val * 128 + a.val, by omega⟩ : Fin 2048) b)
    blk_ext [iblk1, idx1 t]
  · show iblk1 V c 2 t (ix2 a b) = V c main_v25 (ix2 a b)
    blk_ext [iblk1, idx1 t]
  · show iblk1 V c 3 t (ix2 a b) = V c main_v26 (ix2 a b)
    blk_ext [iblk1, idx1 t]
  · refine congrArg₂ (rope (proj (mat (V c main_v1)) (mat (V c main_v3))) (mat (V c main_v25)) (mat (V c main_v26))) (Fin.ext ?_) (Fin.ext ?_)
    · blk_simp [idx1 t]
    · blk_simp [idx1 t, col]

/-- The block indices of the value projection, at every point. -/
theorem idx2 : ∀ t : Fin cfg2.N, win2_0.index t = ![0, 0] ∧ win2_1.index t = ![t.val, 0] ∧ win2_4.index t = ![0, t.val] ∧ t.val < 16 :=
  (by decide +kernel : ∀ t : Fin grid2.N, _)

/-- The result array of the value projection. -/
theorem arr2 (c : Dev nD) : (dat2 V c).arrAt 4 cfg2.N = fun i : S2048x2048.Idx =>
    proj (mat (V c main_v1)) (mat (V c main_v4)) (i 0) (i 1) := by
  refine (dat2 V c).arrAt_eq_of_covers 4 _ (by decide +kernel) fun t hf y => ?_
  have ht : t.val < 16 := (idx2 t).2.2.2
  blk_simp
  rw [after2_4]
  frame_out
  refine (proj_pay ⟨t.val, ht⟩ (mat (V c main_v1)) (mat (V c main_v4)) _ _
    (fun a b => ?_) (fun a b => ?_) y).trans ?_
  · show iblk2 V c 0 t (ix2 a b) = V c main_v1 (ix2 a b)
    blk_ext [iblk2, idx2 t]
  · show iblk2 V c 1 t (ix2 a b) = V c main_v4 (ix2 (⟨t.val * 128 + a.val, by omega⟩ : Fin 2048) b)
    blk_ext [iblk2, idx2 t]
  · refine congrArg₂ (proj (mat (V c main_v1)) (mat (V c main_v4))) (Fin.ext ?_) (Fin.ext ?_)
    · blk_simp [idx2 t]
    · blk_simp [idx2 t, col]

/-- The block indices of the output projection, at every point. -/
theorem idx4 : ∀ t : Fin cfg4.N, win4_0.index t = ![0, 0] ∧ win4_1.index t = ![t.val, 0] ∧ win4_2.index t = ![0, t.val] ∧ t.val < 16 :=
  (by decide +kernel : ∀ t : Fin grid4.N, _)

/-- The result array of the output projection. -/
theorem arr4 (c : Dev nD) : (dat4 V c).arrAt 2 cfg4.N = fun i : S2048x2048.Idx =>
    proj (mat (V c main_v30)) (mat (V c main_v5)) (i 0) (i 1) := by
  refine (dat4 V c).arrAt_eq_of_covers 2 _ (by decide +kernel) fun t hf y => ?_
  have ht : t.val < 16 := (idx4 t).2.2.2
  blk_simp
  rw [after4_2]
  frame_out
  refine (oproj_pay ⟨t.val, ht⟩ (mat (V c main_v30)) (mat (V c main_v5)) _ _
    (fun a b => ?_) (fun a b => ?_) y).trans ?_
  · show iblk4 V c 0 t (ix2 a b) = V c main_v30 (ix2 a b)
    blk_ext [iblk4, idx4 t]
  · show iblk4 V c 1 t (ix2 a b) = V c main_v5 (ix2 (⟨t.val * 128 + a.val, by omega⟩ : Fin 2048) b)
    blk_ext [iblk4, idx4 t]
  · refine congrArg₂ (proj (mat (V c main_v30)) (mat (V c main_v5))) (Fin.ext ?_) (Fin.ext ?_)
    · blk_simp [idx4 t]
    · blk_simp [idx4 t, col]

end Cert.KernelIdeal.Val

end
-- ==== Proof.Consts.lean ====
module

public import proofs.«01_k».proof.KernelIdeal
public import Idealize.ShloMosaic.PureOps.Ideal
public import Idealize.ShloMosaic.PureOps.IdealRules
public import Idealize.ShloMosaic.Lib.WordCmp

@[expose] public section

noncomputable section

/-! The constants of both programs as extended reals, and the causal comparison of words. -/

namespace Cert.Attn

open Idealize.ShloMosaic

/-- The word of minus infinity. -/
theorem ninf : Ideal.ofBits .f32 0xFF800000#32 = ⊥ := by
  simp [Ideal.ofBits, Ideal.ieee, -EReal.coe_mul]

/-- The word of plus infinity. -/
theorem pinf : Ideal.ofBits .f32 0x7F800000#32 = ⊤ := by
  simp [Ideal.ofBits, Ideal.ieee, -EReal.coe_mul]

/-- The word of 128. -/
theorem c128 : Ideal.ofBits .f32 0x43000000#32 = ((128 : ℝ) : EReal) := by
  simp [Ideal.ofBits, Ideal.ieee, -EReal.coe_mul]
  norm_num

/-- The word of 10000. -/
theorem c10000 : Ideal.ofBits .f32 0x461C4000#32 = ((10000 : ℝ) : EReal) := by
  simp [Ideal.ofBits, Ideal.ieee, -EReal.coe_mul]
  norm_num

/-- The scale's name stands for one over the root of 128. -/
theorem inv_root : Named.named (F := Ideal) Cert.KernelIdeal.κ "inv_root" (φ := .f32) 0x3DB504F3#32 = (((Real.sqrt 128)⁻¹ : ℝ) : EReal) :=
  IdealRules.named_const.ideal_named_scalar _ _ _ _ rfl

/-- The mask's name stands for minus infinity. -/
theorem mask : Named.named (F := Ideal) Cert.KernelIdeal.κ "mask" (φ := .f32) 0xF149F2CA#32 = (⊥ : EReal) :=
  IdealRules.named_const.ideal_named_scalar _ _ _ _ rfl

/-- A choice by a signed comparison of two small words is a choice by their values. -/
theorem pick_le {α : Type} (a b : ℕ) (ha : a < 2048) (hb : b < 2048) (u v : α) :
    Scalar.select (IntOp.cmpi .sle (BitVec.ofNat 32 a) (BitVec.ofNat 32 b)) u v = if a ≤ b then u else v := by
  rw [WordCmp.cmpi_sle_ofNat (by norm_num; omega) (by norm_num; omega)]
  by_cases h : a ≤ b <;> simp [Scalar.select, h]

end Cert.Attn

end
-- ==== Proof.KAttn.lean ====
module

public import proofs.«01_k».proof.Proof.KPay
public import proofs.«01_k».proof.Proof.Consts

@[expose] public section

set_option maxRecDepth 16384

noncomputable section

/-! What the attention call leaves in its result array. -/

namespace Cert.KernelIdeal.Val

open Idealize.ShloMosaic Idealize.ShloMosaic.TcCoe Idealize.SL.Sem
open Idealize.ShloMosaic.Pipeline (Dat)
open Cert.KernelIdeal Cert.KernelIdeal.Gen Cert.Attn

/-- The word of a query row's position, computed from its block and its place in it. -/
theorem pos_word (j a : ℕ) : IntOp.addi (Scalar.muli (BitVec.ofNat 32 j) 256#32) (BitVec.ofNat 32 a) = BitVec.ofNat 32 (j * 256 + a) := by
  simp only [IntOp.addi, Scalar.muli, IntOp.muli]
  rw [BitVec.ofNat_add, BitVec.ofNat_mul]

/-- The body of the attention call at a point of head `h` and row block `i 1`, over blocks that read the query rows, the
    keys and the values of that head: it stores the attention outputs of those rows, at the head's columns. -/
theorem attn_pay (h : Fin 16) (i : grid3.Coords) (Q K U : Mat 2048 2048) (hi : (i 1).val < 8)
    (q : FVec Ideal S256x128 .bf16) (k u : FVec Ideal S2048x128 .bf16)
    (hq : ∀ (a : Fin 256) (b : Fin 128), q (ix2 a b) = Q ⟨(i 1).val * 256 + a.val, by omega⟩ (col h b))
    (hk : ∀ a b, k (ix2 a b) = K a (col h b)) (hu : ∀ a b, u (ix2 a b) = U a (col h b)) (y : S256x128.Idx) (r : Fin 2048)
    (hr : r.val = (i 1).val * 256 + (y 0).val) :
    k3_pay1 (F := Ideal) i q k u y = attn Q K U r (col h (y 1)) := by
  idx_vars y
  have hr' : r.val = (i 1).val * 256 + y0.val := hr
  have hr2 : (⟨(i 1).val * 256 + y0.val, by omega⟩ : Fin 2048) = r := Fin.ext hr'.symm
  pointwise [k3_pay1]
  have hh : head (col h y1) = h := Fin.ext (by simp only [head, col]; omega)
  simp only [hq, hk, hu, inv_root, mask, ninf, pos_word, ← hr', hr2]
  simp only [fun (x : Fin 2048) (u v : EReal) => pick_le x.val r.val x.isLt r.isLt u v]
  show _ = attn Q K U r (col h y1)
  unfold attn
  rw [hh]
  rfl

variable (V : (c : Dev nD) → (b : Ref sig .tc) → Buf (Elt Ideal) ((c : Thread nD τ).loc b))

/-- The block indices of the attention call, at every point. -/
theorem idx3 : ∀ t : Fin cfg3.N, win3_0.index t = ![(grid3.coords t 1).val, (grid3.coords t 0).val]
    ∧ win3_1.index t = ![0, (grid3.coords t 0).val] ∧ win3_2.index t = ![0, (grid3.coords t 0).val]
    ∧ win3_3.index t = ![(grid3.coords t 1).val, (grid3.coords t 0).val]
    ∧ (grid3.coords t 0).val < 16 ∧ (grid3.coords t 1).val < 8 :=
  (by decide +kernel : ∀ t : Fin grid3.N, _)

/-- The attention call's result array. -/
theorem arr3 (c : Dev nD) : (dat3 V c).arrAt 3 cfg3.N = fun i : S2048x2048.Idx =>
    attn (mat (V c main_v27)) (mat (V c main_v28)) (mat (V c main_v29)) (i 0) (i 1) := by
  refine (dat3 V c).arrAt_eq_of_covers 3 _ (by decide +kernel) fun t hf y => ?_
  have h0 : (grid3.coords t 0).val < 16 := (idx3 t).2.2.2.2.1
  have h1 : (grid3.coords t 1).val < 8 := (idx3 t).2.2.2.2.2
  blk_simp
  rw [after3_3]
  frame_out
  have hy : (y 0).val < 256 := (y 0).isLt
  refine (attn_pay ⟨(grid3.coords t 0).val, h0⟩ (grid3.coords t) (mat (V c main_v27)) (mat (V c main_v28)) (mat (V c main_v29)) h1 _ _ _
    (fun a b => ?_) (fun a b => ?_) (fun a b => ?_) y ⟨(grid3.coords t 1).val * 256 + (y 0).val, by omega⟩ rfl).trans ?_
  · show iblk3 V c 0 t (ix2 a b) = V c main_v27 (ix2 (⟨(grid3.coords t 1).val * 256 + a.val, by omega⟩ : Fin 2048)
      (⟨(grid3.coords t 0).val * 128 + b.val, by omega⟩ : Fin 2048))
    blk_ext [iblk3, idx3 t]
  · show iblk3 V c 1 t (ix2 a b) = V c main_v28 (ix2 a (⟨(grid3.coords t 0).val * 128 + b.val, by omega⟩ : Fin 2048))
    blk_ext [iblk3, idx3 t]
  · show iblk3 V c 2 t (ix2 a b) = V c main_v29 (ix2 a (⟨(grid3.coords t 0).val * 128 + b.val, by omega⟩ : Fin 2048))
    blk_ext [iblk3, idx3 t]
  · refine congrArg₂ (attn (mat (V c main_v27)) (mat (V c main_v28)) (mat (V c main_v29))) (Fin.ext ?_) (Fin.ext ?_)
    · blk_simp [idx3 t]
    · blk_simp [idx3 t, col]

end Cert.KernelIdeal.Val

end
-- ==== Proof.KOut.lean ====
module

public import proofs.«01_k».proof.Proof.KVal
public import proofs.«01_k».proof.Proof.KAttn
public import Idealize.ShloMosaic.Lib.StableHlo.ReadAt
public import Idealize.ShloMosaic.Lib.Claim

@[expose] public section

set_option maxRecDepth 16384

noncomputable section

/-! The kernel's result array as a function of its arguments: the host operations' arrays read at an index, and the five
    calls' result arrays put one into the next. -/

namespace Cert.KernelIdeal.Val

open Idealize.ShloMosaic Idealize.ShloMosaic.TcCoe Idealize.SL.Sem
open Cert.KernelIdeal Cert.KernelIdeal.Gen Cert.Attn

variable (m : (ℓ : Loc nD τ sig) → Buf (Elt Ideal) ℓ) (ρ : Dev nD → PrngReg) (c : Dev nD)

/-- The activations as a table. -/
abbrev X0 : Mat 2048 2048 := fun a b => (m ((c : Thread nD τ).loc main_arg0) : FVec Ideal S1x2048x2048 .f32) (ix3 0 a b)

/-- The positions. -/
abbrev P0 : Fin 2048 → BitVec 32 := fun a => (m ((c : Thread nD τ).loc main_arg1) : IVec S1x2048 32) (ix2 0 a)

/-- The activations' table is the first call's first operand. -/
theorem h1 : mat (V1 m ρ c main_v1) = X0 m c := by
  funext a b
  show StableHlo.after hostOps0 (W0 m ρ c) (Proc.devRef .tc main_v1) (ix2 a b) = _
  unfold hostOps0
  after_results
  clean_types
  pointwise

/-- Weights 2 reach the calls unchanged. -/
theorem h2 : mat (V1 m ρ c main_v2) = mat (m ((c : Thread nD τ).loc main_arg2)) := by
  funext a b
  show StableHlo.after hostOps0 (W0 m ρ c) (Proc.devRef .tc main_v2) (ix2 a b) = _
  unfold hostOps0
  after_results
  clean_types
  pointwise

/-- Weights 3 reach the calls unchanged. -/
theorem h3 : mat (V1 m ρ c main_v3) = mat (m ((c : Thread nD τ).loc main_arg3)) := by
  funext a b
  show StableHlo.after hostOps0 (W0 m ρ c) (Proc.devRef .tc main_v3) (ix2 a b) = _
  unfold hostOps0
  after_results
  clean_types
  pointwise

/-- Weights 4 reach the calls unchanged. -/
theorem h4 : mat (V1 m ρ c main_v4) = mat (m ((c : Thread nD τ).loc main_arg4)) := by
  funext a b
  show StableHlo.after hostOps0 (W0 m ρ c) (Proc.devRef .tc main_v4) (ix2 a b) = _
  unfold hostOps0
  after_results
  clean_types
  pointwise

/-- Weights 5 reach the calls unchanged. -/
theorem h5 : mat (V1 m ρ c main_v5) = mat (m ((c : Thread nD τ).loc main_arg5)) := by
  funext a b
  show StableHlo.after hostOps0 (W0 m ρ c) (Proc.devRef .tc main_v5) (ix2 a b) = _
  unfold hostOps0
  after_results
  clean_types
  pointwise

/-- The cosine table. -/
theorem h25 : mat (V1 m ρ c main_v25) = fun s d => Ideal.cos (ang (P0 m c) s d) := by
  funext a b
  show StableHlo.after hostOps0 (W0 m ρ c) (Proc.devRef .tc main_v25) (ix2 a b) = _
  unfold hostOps0
  after_results
  clean_types
  pointwise
  refine congrArg Ideal.cos ?_
  unfold ang
  by_cases hb : b.val < 64
  · rw [dif_pos hb, if_pos hb]; rfl
  · rw [dif_neg hb, if_neg hb]; rfl

/-- The sine table. -/
theorem h26 : mat (V1 m ρ c main_v26) = fun s d => Ideal.sin (ang (P0 m c) s d) := by
  funext a b
  show StableHlo.after hostOps0 (W0 m ρ c) (Proc.devRef .tc main_v26) (ix2 a b) = _
  unfold hostOps0
  after_results
  clean_types
  pointwise
  refine congrArg Ideal.sin ?_
  unfold ang
  by_cases hb : b.val < 64
  · rw [dif_pos hb, if_pos hb]; rfl
  · rw [dif_neg hb, if_neg hb]; rfl

/-- The query array after the first call. -/
theorem q2 : mat (V2 m ρ c main_v27) = rope (proj (X0 m c) (mat (m ((c : Thread nD τ).loc main_arg2))))
    (fun s d => Ideal.cos (ang (P0 m c) s d)) (fun s d => Ideal.sin (ang (P0 m c) s d)) := by
  rw [← h1 m ρ c, ← h2 m ρ c, ← h25 m ρ c, ← h26 m ρ c]
  funext a b
  exact congrFun ((W2_arr m ρ c 4).trans (arr0 (V1 m ρ) c)) (ix2 a b)

/-- A buffer the first call does not write. -/
theorem keep2 (r : Ref sig .tc) (h : ∀ w : Fin cfg0.W, Pipeline.arrRef spec0 w = r → (cfg0.win w).isOut = false) :
    V2 m ρ c r = V1 m ρ c r := W2_of m ρ c r h

/-- A buffer the second call does not write. -/
theorem keep3 (r : Ref sig .tc) (h : ∀ w : Fin cfg1.W, Pipeline.arrRef spec1 w = r → (cfg1.win w).isOut = false) :
    V3 m ρ c r = V2 m ρ c r := W3_of m ρ c r h

/-- A buffer the third call does not write. -/
theorem keep4 (r : Ref sig .tc) (h : ∀ w : Fin cfg2.W, Pipeline.arrRef spec2 w = r → (cfg2.win w).isOut = false) :
    V4 m ρ c r = V3 m ρ c r := W4_of m ρ c r h

/-- A buffer the attention call does not write. -/
theorem keep5 (r : Ref sig .tc) (h : ∀ w : Fin cfg3.W, Pipeline.arrRef spec3 w = r → (cfg3.win w).isOut = false) :
    V5 m ρ c r = V4 m ρ c r := W5_of m ρ c r h

/-- The key array after the second call. -/
theorem k3 : mat (V3 m ρ c main_v28) = rope (proj (X0 m c) (mat (m ((c : Thread nD τ).loc main_arg3))))
    (fun s d => Ideal.cos (ang (P0 m c) s d)) (fun s d => Ideal.sin (ang (P0 m c) s d)) := by
  rw [← h1 m ρ c, ← h3 m ρ c, ← h25 m ρ c, ← h26 m ρ c, ← keep2 m ρ c main_v1 (by decide), ← keep2 m ρ c main_v3 (by decide),
    ← keep2 m ρ c main_v25 (by decide), ← keep2 m ρ c main_v26 (by decide)]
  funext a b
  exact congrFun ((W3_arr m ρ c 4).trans (arr1 (V2 m ρ) c)) (ix2 a b)

/-- The value array after the third call. -/
theorem v4 : mat (V4 m ρ c main_v29) = proj (X0 m c) (mat (m ((c : Thread nD τ).loc main_arg4))) := by
  rw [← h1 m ρ c, ← h4 m ρ c, ← keep2 m ρ c main_v1 (by decide), ← keep2 m ρ c main_v4 (by decide),
    ← keep3 m ρ c main_v1 (by decide), ← keep3 m ρ c main_v4 (by decide)]
  funext a b
  exact congrFun ((W4_arr m ρ c 4).trans (arr2 (V3 m ρ) c)) (ix2 a b)

/-- The attention array after the fourth call. -/
theorem a5 : mat (V5 m ρ c main_v30) = attn (mat (V2 m ρ c main_v27)) (mat (V3 m ρ c main_v28)) (mat (V4 m ρ c main_v29)) := by
  rw [← keep3 m ρ c main_v27 (by decide), ← keep4 m ρ c main_v27 (by decide), ← keep4 m ρ c main_v28 (by decide)]
  funext a b
  exact congrFun ((W5_arr m ρ c 3).trans (arr3 (V4 m ρ) c)) (ix2 a b)

/-- The output array after the fifth call. -/
theorem o6 : mat (V6 m ρ c main_v31) = layer (X0 m c) (P0 m c) (mat (m ((c : Thread nD τ).loc main_arg2)))
    (mat (m ((c : Thread nD τ).loc main_arg3))) (mat (m ((c : Thread nD τ).loc main_arg4))) (mat (m ((c : Thread nD τ).loc main_arg5))) := by
  unfold layer
  rw [← q2 m ρ c, ← k3 m ρ c, ← v4 m ρ c, ← a5 m ρ c, ← h5 m ρ c, ← keep2 m ρ c main_v5 (by decide), ← keep3 m ρ c main_v5 (by decide),
    ← keep4 m ρ c main_v5 (by decide), ← keep5 m ρ c main_v5 (by decide)]
  funext a b
  exact congrFun ((W6_arr m ρ c 2).trans (arr4 (V5 m ρ) c)) (ix2 a b)

/-- The kernel's result array holds the layer. -/
theorem result (a b : Fin 2048) : (W7 m ρ c (Proc.devRef .tc main_v32) : FVec Ideal S1x2048x2048 .f32) (ix3 0 a b)
    = layer (X0 m c) (P0 m c) (mat (m ((c : Thread nD τ).loc main_arg2))) (mat (m ((c : Thread nD τ).loc main_arg3)))
        (mat (m ((c : Thread nD τ).loc main_arg4))) (mat (m ((c : Thread nD τ).loc main_arg5))) a b := by
  rw [← o6 m ρ c]
  show StableHlo.after hostOps5 (W6 m ρ c) (Proc.devRef .tc main_v32) (ix3 0 a b) = _
  unfold hostOps5
  after_results
  clean_types
  pointwise

end Cert.KernelIdeal.Val

end
-- ==== Proof.RVal.lean ====
module

public import proofs.«01_k».proof.Proof.Gen.ReferenceIdeal
public import proofs.«01_k».proof.Proof.Spec
public import proofs.«01_k».proof.Proof.Consts
public import Idealize.ShloMosaic.Lib.Pointwise

@[expose] public section

set_option maxRecDepth 16384

noncomputable section

/-! The stages of the reference over variable arrays, each read at an index. -/

namespace Cert.ReferenceIdeal.Val

open Idealize.ShloMosaic Idealize.ShloMosaic.TcCoe Idealize.SL.Sem
open Cert.ReferenceIdeal Cert.ReferenceIdeal.Gen Cert.Attn

/-- A projection split into heads. -/
def projR (x : FVec Ideal S1x2048x2048 .f32) (w : FVec Ideal S2048x2048 .f32) : FVec Ideal S1x16x2048x128 .f32 :=
  transpose S1x16x2048x128 [0, 2, 1, 3] (shapeCast _ (Host.dotGeneral dot_S1x2048x2048_S2048x2048_S1x2048x2048_2_0_01_1_n_n none x (transpose S2048x2048 [1, 0] w transposes_S2048x2048_S2048x2048_1_0)) shapeCasts_S1x2048x2048_S1x2048x16x128) transposes_S1x2048x16x128_S1x16x2048x128_0_2_1_3

/-- Lane `d` of head `h` at position `s` is the projection's entry at the head's column. -/
theorem projR_at (x : FVec Ideal S1x2048x2048 .f32) (w : FVec Ideal S2048x2048 .f32) (h : Fin 16) (s : Fin 2048) (d : Fin 128) :
    projR x w (ix4 0 h s d) = proj (fun a b => x (ix3 0 a b)) (fun a b => w (ix2 a b)) s (col h d) := by
  unfold projR
  pointwise
  rfl

/-- The rotary embedding of a tensor split into heads. -/
def ropeR (y : FVec Ideal S1x16x2048x128 .f32) (c d : FVec Ideal S1x1x2048x128 .f32) : FVec Ideal S1x16x2048x128 .f32 :=
  addf (mulf y (broadcastInDim S1x16x2048x128 ![0, 1, 2, 3] bcast_S1x1x2048x128_S1x16x2048x128_0_1_2_3 c)) (mulf (concatenate S1x16x2048x128 3 [⟨S1x16x2048x64, (Host.negf (extractStridedSlice S1x16x2048x64 ![0, 0, 0, 64] y slices_S1x16x2048x128_S1x16x2048x64_0_0_0_64))⟩, ⟨S1x16x2048x64, (extractStridedSlice S1x16x2048x64 ![0, 0, 0, 0] y slices_S1x16x2048x128_S1x16x2048x64_0_0_0_0)⟩] concatenates_S1x16x2048x64_S1x16x2048x64_S1x16x2048x128_d3) (broadcastInDim S1x16x2048x128 ![0, 1, 2, 3] bcast_S1x1x2048x128_S1x16x2048x128_0_1_2_3 d))

/-- The embedding of a tensor that holds the table `Y` head by head is the table's embedding. -/
theorem ropeR_at (y : FVec Ideal S1x16x2048x128 .f32) (c d : FVec Ideal S1x1x2048x128 .f32) (Y : Mat 2048 2048) (C D : Mat 2048 128)
    (hy : ∀ h s e, y (ix4 0 h s e) = Y s (col h e)) (hc : ∀ s e, c (ix4 0 0 s e) = C s e) (hd : ∀ s e, d (ix4 0 0 s e) = D s e)
    (h : Fin 16) (s : Fin 2048) (e : Fin 128) : ropeR y c d (ix4 0 h s e) = rope Y C D s (col h e) := by
  unfold ropeR
  pointwise
  have hl : lane (col h e) = e := Fin.ext (by simp only [lane, col]; omega)
  have hm : (col h e).val % 128 = e.val := by simp only [col]; omega
  simp only [hy, hc, hd, rope, hl, rot, hm]
  congr 2
  by_cases hh : e.val < 64
  · have w : (col h ⟨64 + e.val, by omega⟩ : Fin 2048) = up (col h e) (by omega) :=
      Fin.ext (by simp only [up, col]; omega)
    rw [dif_pos hh, dif_pos hh, w]
  · have w : (col h ⟨e.val - 64, by omega⟩ : Fin 2048) = down (col h e) :=
      Fin.ext (by simp only [down, col]; omega)
    rw [dif_neg hh, dif_neg hh, w]

/-- The scores under a mask. -/
def maskR (b : IVec S2048x2048 1) (q k : FVec Ideal S1x16x2048x128 .f32) : FVec Ideal S1x16x2048x2048 .f32 :=
  select (broadcastInDim S1x16x2048x2048 ![0, 1, 2, 3] bcast_S1x1x2048x2048_S1x16x2048x2048_0_1_2_3 (broadcastInDim S1x1x2048x2048 ![2, 3] bcast_S2048x2048_S1x1x2048x2048_2_3 b)) (Host.divf (Host.dotGeneral dot_S1x16x2048x128_S1x16x2048x128_S1x16x2048x2048_3_3_2_2_01_01 none q k) (broadcastInDim S1x16x2048x2048 ![] bcast_S_S1x16x2048x2048 (Host.sqrt (constant S_ .f32 0x43000000#32)))) (broadcastInDim S1x16x2048x2048 ![] bcast_S_S1x16x2048x2048 (id (constant S_ .f32 0xFF800000#32)))

/-- One entry: the inner product over the root of 128 where the mask is set, minus infinity elsewhere. -/
theorem maskR_at (b : IVec S2048x2048 1) (q k : FVec Ideal S1x16x2048x128 .f32) (h : Fin 16) (i j : Fin 2048) :
    maskR b q k (ix4 0 h i j) = Scalar.select (b (ix2 i j))
      (Ideal.div (∑ d : Fin 128, q (ix4 0 h i d) * k (ix4 0 h j d)) (Ideal.sqrt (Ideal.ofBits .f32 0x43000000#32))) ⊥ := by
  unfold maskR
  pointwise
  rw [← ninf]
  rfl

/-- The causal mask: set on and below the diagonal. -/
theorem tri_at (i j : Fin 2048) : (select (cmpi .sge (addi (iotaInDim S2048x2048 32 0) (broadcastInDim S2048x2048 ![] bcast_S_S2048x2048 (constantI S_ 32 0#32))) (iotaInDim S2048x2048 32 1)) (broadcastInDim S2048x2048 ![] bcast_S_S2048x2048 (constantI S_ 1 1#1)) (broadcastInDim S2048x2048 ![] bcast_S_S2048x2048 (constantI S_ 1 0#1)) : IVec S2048x2048 1) (ix2 i j)
    = if j.val ≤ i.val then 1#1 else 0#1 := by
  pointwise
  show Scalar.select (IntOp.cmpi .sge (BitVec.ofNat 32 i.val + 0#32) (BitVec.ofNat 32 j.val)) 1#1 0#1 = _
  rw [BitVec.add_zero]
  exact pick_le j.val i.val j.isLt i.isLt _ _

/-- The greatest entry along the last of four axes, folded from minus infinity. -/
theorem rowMax_at {a b c d : Nat} (x : FVec Ideal ⟨4, ![a, b, c, d]⟩ .f32) (hr : (⟨4, ![a, b, c, d]⟩ : Shape).ReducesTo [3] ⟨3, ![a, b, c]⟩)
    (hu : 0 < S_.numel) (i : Fin a) (j : Fin b) (k : Fin c) :
    (Host.reduce FloatOps.maximumf x (constant S_ .f32 0xFF800000#32) hr hu : FVec Ideal ⟨3, ![a, b, c]⟩ .f32) (ix3 i j k)
      = Finset.univ.fold max (⊥ : EReal) fun l => x (ix4 i j k l) := by
  pointwise
  rw [ninf]

/-- The exponentials of a tensor less a table of one number a row. -/
def lessR (a : FVec Ideal S1x16x2048x2048 .f32) (m : FVec Ideal S1x16x2048 .f32) : FVec Ideal S1x16x2048x2048 .f32 :=
  Host.exp (subf a (broadcastInDim S1x16x2048x2048 ![0, 1, 2, 3] bcast_S1x16x2048x1_S1x16x2048x2048_0_1_2_3 (broadcastInDim S1x16x2048x1 ![0, 1, 2] bcast_S1x16x2048_S1x16x2048x1_0_1_2 (maximumf (broadcastInDim S1x16x2048 ![] bcast_S_S1x16x2048 (constant S_ .f32 0xFF800000#32)) m))))

/-- One entry of it. -/
theorem lessR_at (a : FVec Ideal S1x16x2048x2048 .f32) (m : FVec Ideal S1x16x2048 .f32) (h : Fin 16) (i j : Fin 2048) :
    lessR a m (ix4 0 h i j) = Ideal.exp (a (ix4 0 h i j) - m (ix3 0 h i)) := by
  unfold lessR
  pointwise
  rw [ninf, bot_sup_eq]

/-- The weights of a softmax row by row. -/
def expR (a : FVec Ideal S1x16x2048x2048 .f32) : FVec Ideal S1x16x2048x2048 .f32 :=
  lessR a (Host.reduce FloatOps.maximumf a (constant S_ .f32 0xFF800000#32) reducesTo_S1x16x2048x2048_S1x16x2048_d3 h_S_)

/-- One weight: the exponential of the entry less the row's greatest entry. -/
theorem expR_at (a : FVec Ideal S1x16x2048x2048 .f32) (h : Fin 16) (i j : Fin 2048) :
    expR a (ix4 0 h i j) = wt (fun k => a (ix4 0 h i k)) j := by
  have e := rowMax_at a reducesTo_S1x16x2048x2048_S1x16x2048_d3 h_S_ 0 h i
  unfold expR
  rw [lessR_at, e]
  unfold wt top
  with_reducible rfl

/-- The attention outputs put back into columns and projected. -/
def outR (p : FVec Ideal S1x16x2048x2048 .f32) (v : FVec Ideal S1x16x2048x128 .f32) (o : FVec Ideal S2048x2048 .f32) : FVec Ideal S1x2048x2048 .f32 :=
  Host.dotGeneral dot_S1x2048x2048_S2048x2048_S1x2048x2048_2_0_01_1_n_n none (shapeCast _ (transpose S1x2048x16x128 [0, 2, 1, 3] (Host.dotGeneral dot_S1x16x2048x2048_S1x16x2048x128_S1x16x2048x128_3_2_2_3_01_01 none (Host.divf p (broadcastInDim S1x16x2048x2048 ![0, 1, 2, 3] bcast_S1x16x2048x1_S1x16x2048x2048_0_1_2_3 (broadcastInDim S1x16x2048x1 ![0, 1, 2] bcast_S1x16x2048_S1x16x2048x1_0_1_2 (Host.reduceAdd p (constant S_ .f32 0x00000000#32) reducesTo_S1x16x2048x2048_S1x16x2048_d3 h_S_)))) v) transposes_S1x16x2048x128_S1x2048x16x128_0_2_1_3) shapeCasts_S1x2048x16x128_S1x2048x2048) (transpose S2048x2048 [1, 0] o transposes_S2048x2048_S2048x2048_1_0)

/-- One entry: the projection of the sums of normalised weights times values. -/
theorem outR_at (p : FVec Ideal S1x16x2048x2048 .f32) (v : FVec Ideal S1x16x2048x128 .f32) (o : FVec Ideal S2048x2048 .f32) (i n : Fin 2048) :
    outR p v o (ix3 0 i n) = proj (fun i c => ∑ k : Fin 2048, Ideal.div (p (ix4 0 (head c) i k)) (∑ k : Fin 2048, p (ix4 0 (head c) i k)) * v (ix4 0 (head c) k (lane c)))
      (fun a b => o (ix2 a b)) i n := by
  unfold outR
  pointwise
  rfl

end Cert.ReferenceIdeal.Val

end
-- ==== Proof.RTop.lean ====
module

public import proofs.«01_k».proof.Proof.Gen.ReferenceIdeal
public import proofs.«01_k».proof.Proof.Spec
public import proofs.«01_k».proof.Proof.Consts
public import Idealize.ShloMosaic.Lib.Pointwise
public import Idealize.ShloMosaic.Lib.SortFacts
public import Idealize.ShloMosaic.Lib.Routing.OpsPair
public import Idealize.ShloMosaic.Lib.Routing.OpsSet

@[expose] public section

set_option maxRecDepth 16384

noncomputable section

/-! The reference's selection of the greatest scores keeps every one of them: the number selected is the length of a row. -/

namespace Cert.ReferenceIdeal.Val

open Idealize.ShloMosaic Idealize.ShloMosaic.TcCoe Idealize.SL.Sem
open Cert.ReferenceIdeal Cert.ReferenceIdeal.Gen Cert.Attn

/-- A full-length selection of every row lists every position of the row. -/
theorem topK_all {R C : Nat} {α : Type} (gt : α → α → BitVec 1) (x : (⟨2, ![R, C]⟩ : Shape).Idx → α)
    (h : (⟨2, ![R, C]⟩ : Shape).Slices (fun _ => 0) ⟨2, ![R, C]⟩) (r : Fin R) (j : Fin C) :
    ∃ k : Fin C, (Host.topK ⟨2, ![R, C]⟩ 1 gt x h).2 (ix2 r k) = BitVec.ofNat 32 j.val := by
  obtain ⟨k, hk⟩ := sortedFrom_surjective (fun a b : Fin C =>
    gt (x ((ix2 r j : (⟨2, ![R, C]⟩ : Shape).Idx).along 1 a)) (x ((ix2 r j : (⟨2, ![R, C]⟩ : Shape).Idx).along 1 b)) == 1#1) j
  refine ⟨k, ?_⟩
  have hal : ∀ (u v : Fin C) (a : Fin C), (ix2 r u : (⟨2, ![R, C]⟩ : Shape).Idx).along 1 a = (ix2 r v : (⟨2, ![R, C]⟩ : Shape).Idx).along 1 a := by
    intro u v a
    funext t
    match t with
    | ⟨0, _⟩ => rfl
    | ⟨1, _⟩ => rfl
  have hs : ∀ y : IVec ⟨2, ![R, C]⟩ 32, extractStridedSlice ⟨2, ![R, C]⟩ (fun _ => 0) y h (ix2 r k) = y (ix2 r k) := by
    intro y
    refine congrArg y (funext fun t => Fin.ext ?_)
    match t with
    | ⟨0, _⟩ => exact Nat.zero_add _
    | ⟨1, _⟩ => exact Nat.zero_add _
  unfold Host.topK Host.sort2
  dsimp only
  rw [hs]
  have e : sortedFrom (fun a b : Fin C =>
      gt (x ((ix2 r k : (⟨2, ![R, C]⟩ : Shape).Idx).along 1 a)) (x ((ix2 r k : (⟨2, ![R, C]⟩ : Shape).Idx).along 1 b)) == 1#1) k = j := by
    rw [← hk]
    congr 1
    funext a b
    rw [hal k j a, hal k j b]
  rw [dif_pos (show 1 < (⟨2, ![R, C]⟩ : Shape).rank from Nat.one_lt_two)]
  exact congrArg (fun i : Fin C => BitVec.ofNat 32 i.val) e

/-- The table of ones written at the listed positions of every row. -/
def setR (rows : IVec S32768x1 32) (ids : IVec S32768x2048 32) : IVec S32768x2048 1 :=
  Host.scatter scatter_S32768x2048_S32768x2048x2_S32768x2048_n_01_01_2 (fun _ b => b) (broadcastInDim S32768x2048 ![] bcast_S_S32768x2048 (constantI S_ 1 0#1)) (concatenate S32768x2048x2 2 [⟨S32768x2048x1, (broadcastInDim S32768x2048x1 ![0, 1] bcast_S32768x2048_S32768x2048x1_0_1 (broadcastInDim S32768x2048 ![0, 1] bcast_S32768x1_S32768x2048_0_1 (select (cmpi .slt rows (broadcastInDim S32768x1 ![] bcast_S_S32768x1 (constantI S_ 32 0#32))) (addi rows (broadcastInDim S32768x1 ![] bcast_S_S32768x1 (constantI S_ 32 32768#32))) rows)))⟩, ⟨S32768x2048x1, (broadcastInDim S32768x2048x1 ![0, 1] bcast_S32768x2048_S32768x2048x1_0_1 (select (cmpi .slt ids (broadcastInDim S32768x2048 ![] bcast_S_S32768x2048 (constantI S_ 32 0#32))) (addi ids (broadcastInDim S32768x2048 ![] bcast_S_S32768x2048 (constantI S_ 32 2048#32))) ids))⟩] concatenates_S32768x2048x1_S32768x2048x1_S32768x2048x2_d2) (broadcastInDim S32768x2048 ![] bcast_S_S32768x2048 (constantI S_ 1 1#1))

/-- A word below half the range, read signed, is the number. -/
theorem toInt_small (n : Nat) (h : n < 2 ^ 31) : (BitVec.ofNat 32 n).toInt = (n : Int) := by
  have e : (BitVec.ofNat 32 n).toNat = n := by rw [BitVec.toNat_ofNat]; omega
  rw [BitVec.toInt_eq_toNat_of_lt (by rw [e]; omega), e]

/-- When every row lists every position, every entry of the table is one. -/
theorem setR_one (rows : IVec S32768x1 32) (ids : IVec S32768x2048 32) (hr : ∀ r : Fin 32768, rows (ix2 r 0) = BitVec.ofNat 32 r.val)
    (hi : ∀ (r : Fin 32768) (j : Fin 2048), ∃ k : Fin 2048, ids (ix2 r k) = BitVec.ofNat 32 j.val) (r : Fin 32768) (j : Fin 2048) :
    setR rows ids (ix2 r j) = 1#1 := by
  obtain ⟨k, hk⟩ := hi r j
  unfold setR
  refine Routing.scatter_set_hit _ _ _ _ _ _ (fun _ _ => rfl) (ix2 r k) ?_
  refine (Routing.scatter_lands2 _ rfl rfl rfl _ r k r j).2 ⟨?_, ?_⟩
  · have e : (concatenate S32768x2048x2 2 [⟨S32768x2048x1, (broadcastInDim S32768x2048x1 ![0, 1] bcast_S32768x2048_S32768x2048x1_0_1 (broadcastInDim S32768x2048 ![0, 1] bcast_S32768x1_S32768x2048_0_1 (select (cmpi .slt rows (broadcastInDim S32768x1 ![] bcast_S_S32768x1 (constantI S_ 32 0#32))) (addi rows (broadcastInDim S32768x1 ![] bcast_S_S32768x1 (constantI S_ 32 32768#32))) rows)))⟩, ⟨S32768x2048x1, (broadcastInDim S32768x2048x1 ![0, 1] bcast_S32768x2048_S32768x2048x1_0_1 (select (cmpi .slt ids (broadcastInDim S32768x2048 ![] bcast_S_S32768x2048 (constantI S_ 32 0#32))) (addi ids (broadcastInDim S32768x2048 ![] bcast_S_S32768x2048 (constantI S_ 32 2048#32))) ids))⟩] concatenates_S32768x2048x1_S32768x2048x1_S32768x2048x2_d2 : IVec S32768x2048x2 32) (ix3 r k 0)
        = Scalar.select (IntOp.cmpi .slt (rows (ix2 r 0)) 0#32) (IntOp.addi (rows (ix2 r 0)) 32768#32) (rows (ix2 r 0)) := by
      pointwise
    refine (congrArg BitVec.toInt e).trans ?_
    rw [hr, Routing.wrap_of_lt _ _ (by rw [BitVec.toNat_ofNat]; have := r.isLt; omega)]
    exact toInt_small _ (by have := r.isLt; omega)
  · have e : (concatenate S32768x2048x2 2 [⟨S32768x2048x1, (broadcastInDim S32768x2048x1 ![0, 1] bcast_S32768x2048_S32768x2048x1_0_1 (broadcastInDim S32768x2048 ![0, 1] bcast_S32768x1_S32768x2048_0_1 (select (cmpi .slt rows (broadcastInDim S32768x1 ![] bcast_S_S32768x1 (constantI S_ 32 0#32))) (addi rows (broadcastInDim S32768x1 ![] bcast_S_S32768x1 (constantI S_ 32 32768#32))) rows)))⟩, ⟨S32768x2048x1, (broadcastInDim S32768x2048x1 ![0, 1] bcast_S32768x2048_S32768x2048x1_0_1 (select (cmpi .slt ids (broadcastInDim S32768x2048 ![] bcast_S_S32768x2048 (constantI S_ 32 0#32))) (addi ids (broadcastInDim S32768x2048 ![] bcast_S_S32768x2048 (constantI S_ 32 2048#32))) ids))⟩] concatenates_S32768x2048x1_S32768x2048x1_S32768x2048x2_d2 : IVec S32768x2048x2 32) (ix3 r k 1)
        = Scalar.select (IntOp.cmpi .slt (ids (ix2 r k)) 0#32) (IntOp.addi (ids (ix2 r k)) 2048#32) (ids (ix2 r k)) := by
      pointwise
    refine (congrArg BitVec.toInt e).trans ?_
    rw [hk, Routing.wrap_of_lt _ _ (by rw [BitVec.toNat_ofNat]; have := j.isLt; omega)]
    exact toInt_small _ (by have := j.isLt; omega)

/-- The scores with everything cut that is neither in the table nor in one of two bands, or is not under the causal mask. -/
def cutR (t : IVec S32768x2048 1) (x y : IVec S1x16x2048x2048 1) (b : IVec S2048x2048 1) (s : FVec Ideal S1x16x2048x2048 .f32) : FVec Ideal S1x16x2048x2048 .f32 :=
  select (andi (ori (ori (shapeCast _ t shapeCasts_S32768x2048_S1x16x2048x2048) x) y) (broadcastInDim S1x16x2048x2048 ![0, 1, 2, 3] bcast_S1x1x2048x2048_S1x16x2048x2048_0_1_2_3 (broadcastInDim S1x1x2048x2048 ![2, 3] bcast_S2048x2048_S1x1x2048x2048_2_3 b))) s (broadcastInDim S1x16x2048x2048 ![] bcast_S_S1x16x2048x2048 (id (constant S_ .f32 0xFF800000#32)))

/-- With a table of ones only the causal mask cuts. -/
theorem cutR_at (t : IVec S32768x2048 1) (x y : IVec S1x16x2048x2048 1) (b : IVec S2048x2048 1) (s : FVec Ideal S1x16x2048x2048 .f32)
    (ht : ∀ (r : Fin 32768) (j : Fin 2048), t (ix2 r j) = 1#1) (h : Fin 16) (i j : Fin 2048) :
    cutR t x y b s (ix4 0 h i j) = Scalar.select (b (ix2 i j)) (s (ix4 0 h i j)) ⊥ := by
  unfold cutR
  pointwise
  rw [ht, ← ninf]
  generalize x (ix4 0 h i j) = u
  generalize y (ix4 0 h i j) = v
  generalize b (ix2 i j) = w
  have e : IntOp.andi (IntOp.ori (IntOp.ori 1#1 u) v) w = w := by
    revert u v w; decide
  rw [e]
  rfl

end Cert.ReferenceIdeal.Val

end
-- ==== Proof.Soft.lean ====
module

public import proofs.«01_k».proof.Proof.Spec
public import proofs.«01_k».proof.Proof.Consts
public import Mathlib.Data.EReal.Operations
public import Mathlib.Data.EReal.Inv

@[expose] public section

noncomputable section

/-! Finite numbers among the extended reals, and the softmax that divides early against the one that divides late. -/

namespace Cert.Attn

open Idealize.ShloMosaic

/-- The extended real is a real number. -/
def Real' (x : EReal) : Prop := ∃ r : ℝ, x = (r : EReal)

/-- A number whose absolute value is below plus infinity is real. -/
theorem fin_of_abs (x : EReal) (h : max x (-x) < ⊤) : Real' x := by
  induction x using EReal.rec with
  | bot => exact absurd h (by simp)
  | coe r => exact ⟨r, rfl⟩
  | top => exact absurd h (by simp)

/-- Sums of two reals are real. -/
theorem Real'.add {x y : EReal} (hx : Real' x) (hy : Real' y) : Real' (x + y) := by
  obtain ⟨a, rfl⟩ := hx
  obtain ⟨b, rfl⟩ := hy
  exact ⟨a + b, (EReal.coe_add a b).symm⟩

/-- Products of two reals are real. -/
theorem Real'.mul {x y : EReal} (hx : Real' x) (hy : Real' y) : Real' (x * y) := by
  obtain ⟨a, rfl⟩ := hx
  obtain ⟨b, rfl⟩ := hy
  exact ⟨a * b, (EReal.coe_mul a b).symm⟩

/-- The opposite of a real is real. -/
theorem Real'.neg {x : EReal} (hx : Real' x) : Real' (-x) := by
  obtain ⟨a, rfl⟩ := hx
  exact ⟨-a, (EReal.coe_neg a).symm⟩

/-- A finite sum of reals is real. -/
theorem fin_sum {ι : Type} [Fintype ι] (f : ι → EReal) (h : ∀ i, Real' (f i)) : Real' (∑ i, f i) := by
  classical
  refine Finset.induction_on (motive := fun s => Real' (∑ i ∈ s, f i)) Finset.univ ⟨0, by simp⟩ ?_
  intro a s ha hs
  rw [Finset.sum_insert ha]
  exact (h a).add hs

/-- A quotient of reals by one that is not zero. -/
theorem div_real (a b : ℝ) (hb : b ≠ 0) : Ideal.div (a : EReal) (b : EReal) = ((a * b⁻¹ : ℝ) : EReal) := by
  unfold Ideal.div
  rw [if_neg (by simpa using hb), ← EReal.coe_inv, ← EReal.coe_mul]

/-- A projection of real tables is real. -/
theorem fin_proj (x w : Mat 2048 2048) (hx : ∀ a b, Real' (x a b)) (hw : ∀ a b, Real' (w a b)) (s n : Fin 2048) : Real' (proj x w s n) :=
  fin_sum _ fun k => (hx s k).mul (hw n k)

/-- The rotary embedding of real tables is real. -/
theorem fin_rope (y : Mat 2048 2048) (c d : Mat 2048 128) (hy : ∀ a b, Real' (y a b)) (hc : ∀ a b, Real' (c a b)) (hd : ∀ a b, Real' (d a b))
    (s n : Fin 2048) : Real' (rope y c d s n) := by
  refine ((hy s n).mul (hc s _)).add (Real'.mul ?_ (hd s _))
  unfold rot
  split
  · exact (hy s _).neg
  · exact hy s _

/-- The frequencies are real. -/
theorem fin_freq (j : ℕ) : Real' (freq j) := by
  have h2 : Real' (Ideal.ofBits .f32 0x40000000#32) := ⟨2, by
    simp [Ideal.ofBits, Ideal.ieee, -EReal.coe_mul]
    norm_num⟩
  have hj : Real' (FloatOps.sitofp (F := Ideal) .f32 (BitVec.ofNat 32 j) : EReal) := ⟨_, rfl⟩
  obtain ⟨r, hr⟩ := h2.mul hj
  unfold freq
  rw [hr, c128, c10000, div_real _ _ (by norm_num)]
  have e : Ideal.pow ((10000 : ℝ) : EReal) ((r * (128 : ℝ)⁻¹ : ℝ) : EReal) = (Real.rpow 10000 (r * (128 : ℝ)⁻¹) : EReal) := rfl
  rw [e, ← EReal.coe_one, div_real _ _ (ne_of_gt (show 0 < Real.rpow 10000 (r * (128 : ℝ)⁻¹) from Real.rpow_pos_of_pos (by norm_num) _))]
  exact ⟨_, rfl⟩

/-- The angles are real. -/
theorem fin_ang (p : Fin 2048 → BitVec 32) (s : Fin 2048) (d : Fin 128) : Real' (ang p s d) :=
  Real'.mul ⟨_, rfl⟩ (fin_freq _)

/-- The cosines are real. -/
theorem fin_cos (p : Fin 2048 → BitVec 32) (s : Fin 2048) (d : Fin 128) : Real' (Ideal.cos (ang p s d)) := by
  obtain ⟨r, hr⟩ := fin_ang p s d
  rw [hr]
  exact ⟨_, rfl⟩

/-- The sines are real. -/
theorem fin_sin (p : Fin 2048 → BitVec 32) (s : Fin 2048) (d : Fin 128) : Real' (Ideal.sin (ang p s d)) := by
  obtain ⟨r, hr⟩ := fin_ang p s d
  rw [hr]
  exact ⟨_, rfl⟩

/-- The inner products of real tables are real. -/
theorem fin_dotp (q k : Mat 2048 2048) (hq : ∀ a b, Real' (q a b)) (hk : ∀ a b, Real' (k a b)) (h : Fin 16) (i j : Fin 2048) :
    Real' (dotp q k h i j) := fin_sum _ fun d => (hq i _).mul (hk j _)

/-- Dividing a real by the root of 128 is multiplying it by the inverse. -/
theorem div_root (x : EReal) (hx : Real' x) : Ideal.div x (Ideal.sqrt (Ideal.ofBits .f32 0x43000000#32)) = x * (((Real.sqrt 128)⁻¹ : ℝ) : EReal) := by
  obtain ⟨r, rfl⟩ := hx
  have h : Real.sqrt 128 ≠ 0 := ne_of_gt (Real.sqrt_pos.2 (by norm_num))
  rw [c128, Ideal.sqrt_coe, if_neg (by norm_num), div_real _ _ h, EReal.coe_mul]

/-- A real factor that is not negative comes out of a sum of extended reals. -/
theorem sum_mul_real {ι : Type} [Fintype ι] (f : ι → EReal) (c : ℝ) (hc : 0 ≤ c) : ∑ i, f i * (c : EReal) = (∑ i, f i) * (c : EReal) := by
  classical
  refine Finset.induction_on (motive := fun s => ∑ i ∈ s, f i * (c : EReal) = (∑ i ∈ s, f i) * (c : EReal)) Finset.univ (by simp) ?_
  intro a s ha hs
  rw [Finset.sum_insert ha, Finset.sum_insert ha, hs,
    EReal.right_distrib_of_nonneg_of_ne_top (EReal.coe_nonneg.2 hc) (EReal.coe_ne_top c)]

/-- The sum of real numbers among the extended reals is their real sum. -/
theorem coe_sum {ι : Type} [Fintype ι] (f : ι → ℝ) : ((∑ i, f i : ℝ) : EReal) = ∑ i, (f i : EReal) := by
  classical
  refine Finset.induction_on (motive := fun s => ((∑ i ∈ s, f i : ℝ) : EReal) = ∑ i ∈ s, (f i : EReal)) Finset.univ (by simp) ?_
  intro a s ha hs
  rw [Finset.sum_insert ha, Finset.sum_insert ha, EReal.coe_add, hs]

/-- A row of reals and minus infinities with at least one real: normalising the weights first or the sum last is the same. -/
theorem att_eq (s v : Fin 2048 → EReal) (hs : ∀ k, s k = ⊥ ∨ Real' (s k)) (k₀ : Fin 2048) (h₀ : Real' (s k₀)) :
    ∑ k, Ideal.div (wt s k) (∑ k, wt s k) * v k = att s v := by
  have ht : Real' (top s) := by
    have hlt : top s < ⊤ := (Finset.fold_max_lt _).2 ⟨bot_lt_top, fun k _ => by
      rcases hs k with h | ⟨r, h⟩
      · rw [h]; exact bot_lt_top
      · rw [h]; exact EReal.coe_lt_top r⟩
    have hle : s k₀ ≤ top s := (Finset.le_fold_max _).2 (.inr ⟨k₀, Finset.mem_univ _, le_rfl⟩)
    obtain ⟨r, hr⟩ := h₀
    rw [hr] at hle
    exact ⟨(top s).toReal, (EReal.coe_toReal hlt.ne (ne_of_gt (lt_of_lt_of_le (EReal.bot_lt_coe r) hle))).symm⟩
  obtain ⟨t, ht⟩ := ht
  have hw : ∀ k, ∃ w : ℝ, 0 ≤ w ∧ wt s k = (w : EReal) ∧ (Real' (s k) → 0 < w) := by
    intro k
    unfold wt
    rw [ht]
    rcases hs k with h | ⟨r, h⟩
    · refine ⟨0, le_rfl, ?_, ?_⟩
      · rw [h, EReal.bot_sub]; rfl
      · rintro ⟨r, hr⟩
        exact absurd (hr.symm.trans h) (EReal.coe_ne_bot r)
    · refine ⟨Real.exp (r - t), (Real.exp_pos _).le, ?_, fun _ => Real.exp_pos _⟩
      rw [h, ← EReal.coe_sub]; rfl
  choose w hw0 hwe hwp using hw
  have hl : ∑ k, wt s k = ((∑ k, w k : ℝ) : EReal) := by
    rw [coe_sum]
    exact Finset.sum_congr rfl fun k _ => hwe k
  have hpos : 0 < ∑ k, w k := Finset.sum_pos' (fun k _ => hw0 k) ⟨k₀, Finset.mem_univ _, hwp k₀ h₀⟩
  unfold att
  rw [hl]
  have hR : Ideal.div (∑ k, wt s k * v k) ((∑ k, w k : ℝ) : EReal) = (∑ k, wt s k * v k) * (((∑ k, w k)⁻¹ : ℝ) : EReal) := by
    unfold Ideal.div
    rw [if_neg (by simpa using hpos.ne'), ← EReal.coe_inv]
  rw [hR, ← sum_mul_real _ _ (inv_nonneg.2 hpos.le)]
  refine Finset.sum_congr rfl fun k _ => ?_
  rw [hwe k, div_real _ _ hpos.ne', EReal.coe_mul, mul_assoc, mul_comm (((∑ k, w k)⁻¹ : ℝ) : EReal), mul_assoc]

end Cert.Attn

end
-- ==== Proof.ROut.lean ====
module

public import proofs.«01_k».proof.Proof.Gen.ReferenceIdeal.Run
public import proofs.«01_k».proof.Proof.RVal
public import proofs.«01_k».proof.Proof.RTop
public import proofs.«01_k».proof.Proof.Soft

@[expose] public section

set_option maxRecDepth 16384

noncomputable section

/-! The reference's result at an index is the layer, for real activations and real query and key weights. -/

namespace Cert.ReferenceIdeal.Val

open Idealize.ShloMosaic Idealize.ShloMosaic.TcCoe Idealize.SL.Sem
open Cert.ReferenceIdeal Cert.ReferenceIdeal.Gen Cert.ReferenceIdeal.Value Cert.Attn

/-- The angles in the lower half of a head. -/
def halfR (p : IVec S1x2048 32) : FVec Ideal S1x2048x64 .f32 :=
  mulf (broadcastInDim S1x2048x64 ![0, 1, 2] bcast_S1x2048x1_S1x2048x64_0_1_2 (broadcastInDim S1x2048x1 ![0, 1] bcast_S1x2048_S1x2048x1_0_1 (sitofp .f32 p))) (broadcastInDim S1x2048x64 ![0, 1, 2] bcast_S1x1x64_S1x2048x64_0_1_2 (broadcastInDim S1x1x64 ![2] bcast_S64_S1x1x64_2 (Host.divf (broadcastInDim S64 ![] bcast_S_S64 (constant S_ .f32 0x3F800000#32)) (Host.powf (broadcastInDim S64 ![] bcast_S_S64 (constant S_ .f32 0x461C4000#32)) (Host.divf (addf (broadcastInDim S64 ![] bcast_S_S64 (constant S_ .f32 0x00000000#32)) (mulf (broadcastInDim S64 ![] bcast_S_S64 (constant S_ .f32 0x40000000#32)) (sitofp .f32 (iotaInDim S64 32 0)))) (broadcastInDim S64 ![] bcast_S_S64 (constant S_ .f32 0x43000000#32)))))))

/-- One of them: the position times the lane's inverse frequency. -/
theorem halfR_at (p : IVec S1x2048 32) (s : Fin 2048) (d : Fin 64) :
    halfR p (ix3 0 s d) = FloatOps.sitofp (F := Ideal) .f32 (p (ix2 0 s)) * freq d.val := by
  unfold halfR
  pointwise
  rfl

/-- The angles of a whole head. -/
def angR (p : IVec S1x2048 32) : FVec Ideal S1x2048x128 .f32 :=
  concatenate S1x2048x128 2 [⟨S1x2048x64, (halfR p)⟩, ⟨S1x2048x64, (halfR p)⟩] concatenates_S1x2048x64_S1x2048x64_S1x2048x128_d2

/-- One of them. -/
theorem angR_at (p : IVec S1x2048 32) (s : Fin 2048) (d : Fin 128) : angR p (ix3 0 s d) = ang (fun a => p (ix2 0 a)) s d := by
  unfold angR
  pointwise
  unfold ang
  by_cases h : d.val < 64
  · rw [dif_pos h, if_pos h]; exact halfR_at p s ⟨d.val, h⟩
  · rw [dif_neg h, if_neg h]; exact halfR_at p s ⟨d.val - 64, by omega⟩

/-- The cosine table is the cosine of the angles. -/
theorem cos_at (V0 : Valuation τ sig (Elt Ideal)) (s : Fin 2048) (d : Fin 128) :
    (res_main_v31 V0 : FVec Ideal S1x1x2048x128 .f32) (ix4 0 0 s d) = Ideal.cos (ang (fun a => (V0 (Proc.devRef .tc main_arg1) : IVec S1x2048 32) (ix2 0 a)) s d) := by
  have e : (broadcastInDim S1x1x2048x128 ![0, 2, 3] bcast_S1x2048x128_S1x1x2048x128_0_2_3 (Host.cos (angR (V0 (Proc.devRef .tc main_arg1)))) : FVec Ideal S1x1x2048x128 .f32) (ix4 0 0 s d)
      = Ideal.cos (angR (V0 (Proc.devRef .tc main_arg1)) (ix3 0 s d)) := by
    generalize angR (V0 (Proc.devRef .tc main_arg1)) = A
    pointwise
  rw [angR_at] at e
  exact e

/-- The sine table is the sine of the angles. -/
theorem sin_at (V0 : Valuation τ sig (Elt Ideal)) (s : Fin 2048) (d : Fin 128) :
    (res_main_v33 V0 : FVec Ideal S1x1x2048x128 .f32) (ix4 0 0 s d) = Ideal.sin (ang (fun a => (V0 (Proc.devRef .tc main_arg1) : IVec S1x2048 32) (ix2 0 a)) s d) := by
  have e : (broadcastInDim S1x1x2048x128 ![0, 2, 3] bcast_S1x2048x128_S1x1x2048x128_0_2_3 (Host.sin (angR (V0 (Proc.devRef .tc main_arg1)))) : FVec Ideal S1x1x2048x128 .f32) (ix4 0 0 s d)
      = Ideal.sin (angR (V0 (Proc.devRef .tc main_arg1)) (ix3 0 s d)) := by
    generalize angR (V0 (Proc.devRef .tc main_arg1)) = A
    pointwise
  rw [angR_at] at e
  exact e

/-- The row numbers. -/
theorem rows_at (r : Fin 32768) : (broadcastInDim S32768x1 ![0] bcast_S32768_S32768x1_0 (iotaInDim S32768 32 0) : IVec S32768x1 32) (ix2 r 0) = BitVec.ofNat 32 r.val := by
  pointwise

section

variable (V0 : Valuation τ sig (Elt Ideal))

/-- The activations as a table. -/
abbrev actX : Mat 2048 2048 := fun a b => (V0 (Proc.devRef .tc main_arg0) : FVec Ideal S1x2048x2048 .f32) (ix3 0 a b)
/-- The positions as a row. -/
abbrev posP : Fin 2048 → BitVec 32 := fun a => (V0 (Proc.devRef .tc main_arg1) : IVec S1x2048 32) (ix2 0 a)
/-- The query weights as a table. -/
abbrev wQ : Mat 2048 2048 := fun a b => (V0 (Proc.devRef .tc main_arg2) : FVec Ideal S2048x2048 .f32) (ix2 a b)
/-- The key weights as a table. -/
abbrev wK : Mat 2048 2048 := fun a b => (V0 (Proc.devRef .tc main_arg3) : FVec Ideal S2048x2048 .f32) (ix2 a b)
/-- The value weights as a table. -/
abbrev wV : Mat 2048 2048 := fun a b => (V0 (Proc.devRef .tc main_arg4) : FVec Ideal S2048x2048 .f32) (ix2 a b)
/-- The output weights as a table. -/
abbrev wO : Mat 2048 2048 := fun a b => (V0 (Proc.devRef .tc main_arg5) : FVec Ideal S2048x2048 .f32) (ix2 a b)

/-- A projection of the activations under the rotary embedding. -/
def roped (w : Mat 2048 2048) : Mat 2048 2048 :=
  rope (proj (actX V0) w) (fun s d => Ideal.cos (ang (posP V0) s d)) (fun s d => Ideal.sin (ang (posP V0) s d))

/-- The embedded queries. -/
theorem q_at (h : Fin 16) (s : Fin 2048) (d : Fin 128) :
    ropeR (res_main_v3 V0) (res_main_v31 V0) (res_main_v33 V0) (ix4 0 h s d) = roped V0 (wQ V0) s (col h d) :=
  ropeR_at _ _ _ _ _ _ (fun h s e => projR_at (V0 (Proc.devRef .tc main_arg0)) (V0 (Proc.devRef .tc main_arg2)) h s e) (cos_at V0) (sin_at V0) h s d

/-- The embedded keys. -/
theorem k_at (h : Fin 16) (s : Fin 2048) (d : Fin 128) :
    ropeR (res_main_v7 V0) (res_main_v31 V0) (res_main_v33 V0) (ix4 0 h s d) = roped V0 (wK V0) s (col h d) :=
  ropeR_at _ _ _ _ _ _ (fun h s e => projR_at (V0 (Proc.devRef .tc main_arg0)) (V0 (Proc.devRef .tc main_arg3)) h s e) (cos_at V0) (sin_at V0) h s d

/-- Real activations and real weights give real embedded projections. -/
theorem roped_real (w : Mat 2048 2048) (hx : ∀ a b, Real' (actX V0 a b)) (hw : ∀ a b, Real' (w a b)) (s n : Fin 2048) : Real' (roped V0 w s n) :=
  fin_rope _ _ _ (fin_proj _ _ hx hw) (fin_cos _) (fin_sin _) s n

/-- The causal mask. -/
theorem v77_at (i j : Fin 2048) : (res_main_v77 V0 : IVec S2048x2048 1) (ix2 i j) = if j.val ≤ i.val then 1#1 else 0#1 := tri_at i j

/-- The masked scores. -/
theorem v79_at (hx : ∀ a b, Real' (actX V0 a b)) (hq : ∀ a b, Real' (wQ V0 a b)) (hk : ∀ a b, Real' (wK V0 a b)) (h : Fin 16) (i j : Fin 2048) :
    (res_main_v79 V0 : FVec Ideal S1x16x2048x2048 .f32) (ix4 0 h i j) = score (roped V0 (wQ V0)) (roped V0 (wK V0)) h i j := by
  have e := maskR_at (res_main_v77 V0) (ropeR (res_main_v3 V0) (res_main_v31 V0) (res_main_v33 V0)) (ropeR (res_main_v7 V0) (res_main_v31 V0) (res_main_v33 V0)) h i j
  rw [v77_at] at e
  simp only [q_at, k_at] at e
  refine Eq.trans (show _ = maskR (res_main_v77 V0) (ropeR (res_main_v3 V0) (res_main_v31 V0) (res_main_v33 V0)) (ropeR (res_main_v7 V0) (res_main_v31 V0) (res_main_v33 V0)) (ix4 0 h i j) from rfl) (e.trans ?_)
  have hd := fin_dotp _ _ (roped_real V0 (wQ V0) hx hq) (roped_real V0 (wK V0) hx hk) h i j
  unfold score
  by_cases hij : j.val ≤ i.val
  · rw [if_pos hij, if_pos hij]
    exact div_root _ hd
  · rw [if_neg hij, if_neg hij]
    rfl

/-- Every row of the selection lists every position. -/
theorem ids_all (r : Fin 32768) (j : Fin 2048) : ∃ k : Fin 2048, (res_main_indices V0 : IVec S32768x2048 32) (ix2 r k) = BitVec.ofNat 32 j.val :=
  topK_all (FloatOps.cmpfTotal (F := Ideal) (φ := .f32) .gt) (res_main_v80 V0 : FVec Ideal S32768x2048 .f32) sliceFits_S32768x2048_S32768x2048 r j

/-- The scores after the selection are the masked scores. -/
theorem v110_at (hx : ∀ a b, Real' (actX V0 a b)) (hq : ∀ a b, Real' (wQ V0 a b)) (hk : ∀ a b, Real' (wK V0 a b)) (h : Fin 16) (i j : Fin 2048) :
    (res_main_v110 V0 : FVec Ideal S1x16x2048x2048 .f32) (ix4 0 h i j) = score (roped V0 (wQ V0)) (roped V0 (wK V0)) h i j := by
  obtain ⟨x, y, hxy⟩ : ∃ x y : IVec S1x16x2048x2048 1,
      (res_main_v110 V0 : FVec Ideal S1x16x2048x2048 .f32) = cutR (setR (res_main_v82 V0) (res_main_indices V0)) x y (res_main_v77 V0) (res_main_v79 V0) := ⟨_, _, rfl⟩
  rw [hxy, cutR_at _ _ _ _ _ (setR_one (res_main_v82 V0) (res_main_indices V0) (fun r => rows_at r) (ids_all V0)), v77_at, v79_at V0 hx hq hk]
  unfold score
  by_cases hij : j.val ≤ i.val
  · rw [if_pos hij, if_pos hij]
    rfl
  · rw [if_neg hij, if_neg hij]
    rfl

/-- The softmax weights. -/
theorem v117_at (hx : ∀ a b, Real' (actX V0 a b)) (hq : ∀ a b, Real' (wQ V0 a b)) (hk : ∀ a b, Real' (wK V0 a b)) (h : Fin 16) (i j : Fin 2048) :
    (res_main_v117 V0 : FVec Ideal S1x16x2048x2048 .f32) (ix4 0 h i j) = wt (score (roped V0 (wQ V0)) (roped V0 (wK V0)) h i) j := by
  refine Eq.trans (show _ = expR (res_main_v110 V0) (ix4 0 h i j) from rfl) ((expR_at _ h i j).trans ?_)
  simp only [v110_at V0 hx hq hk]

/-- The reference's result is the layer. -/
theorem result (hx : ∀ a b, Real' (actX V0 a b)) (hq : ∀ a b, Real' (wQ V0 a b)) (hk : ∀ a b, Real' (wK V0 a b)) (i n : Fin 2048) :
    outR (res_main_v117 V0) (projR (V0 (Proc.devRef .tc main_arg0)) (V0 (Proc.devRef .tc main_arg4))) (V0 (Proc.devRef .tc main_arg5)) (ix3 0 i n)
      = layer (actX V0) (posP V0) (wQ V0) (wK V0) (wV V0) (wO V0) i n := by
  rw [outR_at]
  unfold layer
  congr 1
  funext s c
  have hc : col (head c) (lane c) = c := Fin.ext (by simp only [col, head, lane]; omega)
  simp only [v117_at V0 hx hq hk, projR_at, hc]
  refine att_eq _ _ (fun k => ?_) s ?_
  · unfold score
    split
    · exact .inr ((fin_dotp _ _ (roped_real V0 (wQ V0) hx hq) (roped_real V0 (wK V0) hx hk) _ _ _).mul ⟨_, rfl⟩)
    · exact .inl rfl
  · unfold score
    rw [if_pos le_rfl]
    exact (fin_dotp _ _ (roped_real V0 (wQ V0) hx hq) (roped_real V0 (wK V0) hx hk) _ _ _).mul ⟨_, rfl⟩

end

/-- Every execution of the reference ends with the result array at the last stage and every argument as it was. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v126) = outR (res_main_v117 (StableHlo.launchContents m c))
        (projR (m ((c.tc : Thread nD τ).loc main_arg0)) (m ((c.tc : Thread nD τ).loc main_arg4))) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Cert.ReferenceIdeal.Value.run (F := Ideal) m ρ

end Cert.ReferenceIdeal.Val

end
-- ==== Proof.Pre.lean ====
module

public import proofs.«01_k».proof.Pre_finite_scores
public import proofs.«01_k».proof.Proof.Soft
public import Idealize.ShloMosaic.Lib.Pointwise

@[expose] public section

noncomputable section

/-! The precondition read at an index: activations, query weights and key weights are real. -/

namespace Cert.Pre_finite_scores

open Idealize.ShloMosaic Cert.Attn

/-- The function's side conditions. -/
theorem facts : Facts := ⟨by decide, by decide⟩

/-- A true comparison of an absolute value with plus infinity: the number is real. -/
theorem real_of_olt (x : EReal) (h : Ideal.cmp .olt (max x (-x)) (Ideal.ofBits .f32 0x7F800000#32) = 1#1) : Real' x := by
  rw [pinf] at h
  refine fin_of_abs x ?_
  by_contra hn
  simp [Ideal.cmp, hn] at h

/-- Both halves of a true conjunction are true. -/
theorem and_one (a b : BitVec 1) (h : a &&& b = 1#1) : a = 1#1 ∧ b = 1#1 := by
  revert a b; decide

/-- What the precondition says. -/
theorem reals [Facts] (a0 : FVec Ideal S1x2048x2048 .f32) (a1 : IVec S1x2048 32) (a2 a3 a4 a5 : FVec Ideal S2048x2048 .f32)
    (h : fn (F := Ideal) a0 a1 a2 a3 a4 a5 = fun _ => 1#1) (a b : Fin 2048) :
    Real' (a0 (ix3 0 a b)) ∧ Real' (a2 (ix2 a b)) ∧ Real' (a3 (ix2 a b)) := by
  have e : fn (F := Ideal) a0 a1 a2 a3 a4 a5 (ix2 a b)
      = (Ideal.cmp .olt (max (a0 (ix3 0 a b)) (-(a0 (ix3 0 a b)))) (Ideal.ofBits .f32 0x7F800000#32)
        &&& Ideal.cmp .olt (max (a2 (ix2 a b)) (-(a2 (ix2 a b)))) (Ideal.ofBits .f32 0x7F800000#32))
        &&& Ideal.cmp .olt (max (a3 (ix2 a b)) (-(a3 (ix2 a b)))) (Ideal.ofBits .f32 0x7F800000#32) := by
    unfold fn
    pointwise
    rfl
  rw [h] at e
  obtain ⟨e12, e3⟩ := and_one _ _ e.symm
  obtain ⟨e1, e2⟩ := and_one _ _ e12
  exact ⟨real_of_olt _ e1, real_of_olt _ e2, real_of_olt _ e3⟩

end Cert.Pre_finite_scores

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KRun
public import proofs.«01_k».proof.Proof.KOut
public import proofs.«01_k».proof.Proof.ROut
public import proofs.«01_k».proof.Proof.Pre
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The kernel runs, leaves its arguments unchanged and every counter at zero. -/
theorem frame_p : Cert.quiescent_Kernel := fun m ρ _ => Cert.Kernel.Gen.frame m ρ

/-- So does the ideal kernel. -/
theorem frame_pi : Cert.quiescent_KernelIdeal := fun m ρ _ => Cert.KernelIdeal.Gen.frame m ρ

/-- So does the reference. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The two named constants: `1/√128` is the kernel's rounded `0.0883883461`, `−∞` its mask of `−1e30`. -/
theorem preserves : Cert.preserves_Kernel_KernelIdeal :=
  ⟨IdealRules.named_const.statement Cert.KernelIdeal.κ "inv_root" .f32 0x3DB504F3#32 (((Real.sqrt 128)⁻¹ : ℝ) : EReal) rfl,
    IdealRules.named_const.statement Cert.KernelIdeal.κ "mask" .f32 0xF149F2CA#32 ⊥ rfl⟩

instance preFacts : Cert.Pre_finite_scores.Facts := Cert.Pre_finite_scores.facts

/-- The two result arrays are one: at every index both are the layer of the arguments. -/
theorem same (m : (ℓ : Loc Cert.KernelIdeal.nD Cert.KernelIdeal.τ Cert.KernelIdeal.sig) → Buf (Elt Ideal) ℓ) (g : Dev Cert.KernelIdeal.nD → PrngReg)
    (V : Valuation Cert.ReferenceIdeal.τ Cert.ReferenceIdeal.sig (Elt Ideal)) (hp : Cert.Pre_KernelIdeal_finite_scores m) (c : Dev Cert.KernelIdeal.nD)
    (h0 : V (Proc.devRef .tc Cert.ReferenceIdeal.main_arg0) = m ((c.tc : Thread Cert.KernelIdeal.nD Cert.KernelIdeal.τ).loc Cert.KernelIdeal.main_arg0))
    (h1 : V (Proc.devRef .tc Cert.ReferenceIdeal.main_arg1) = m ((c.tc : Thread Cert.KernelIdeal.nD Cert.KernelIdeal.τ).loc Cert.KernelIdeal.main_arg1))
    (h2 : V (Proc.devRef .tc Cert.ReferenceIdeal.main_arg2) = m ((c.tc : Thread Cert.KernelIdeal.nD Cert.KernelIdeal.τ).loc Cert.KernelIdeal.main_arg2))
    (h3 : V (Proc.devRef .tc Cert.ReferenceIdeal.main_arg3) = m ((c.tc : Thread Cert.KernelIdeal.nD Cert.KernelIdeal.τ).loc Cert.KernelIdeal.main_arg3))
    (h4 : V (Proc.devRef .tc Cert.ReferenceIdeal.main_arg4) = m ((c.tc : Thread Cert.KernelIdeal.nD Cert.KernelIdeal.τ).loc Cert.KernelIdeal.main_arg4))
    (h5 : V (Proc.devRef .tc Cert.ReferenceIdeal.main_arg5) = m ((c.tc : Thread Cert.KernelIdeal.nD Cert.KernelIdeal.τ).loc Cert.KernelIdeal.main_arg5)) :
    Cert.ReferenceIdeal.Val.outR (Cert.ReferenceIdeal.Value.res_main_v117 V)
        (Cert.ReferenceIdeal.Val.projR (V (Proc.devRef .tc Cert.ReferenceIdeal.main_arg0)) (V (Proc.devRef .tc Cert.ReferenceIdeal.main_arg4)))
        (V (Proc.devRef .tc Cert.ReferenceIdeal.main_arg5))
      = (Cert.KernelIdeal.Gen.W7 m g c (Proc.devRef .tc Cert.KernelIdeal.main_v32) : FVec Ideal Cert.KernelIdeal.S1x2048x2048 .f32) := by
  have hr := Cert.Pre_finite_scores.reals _ _ _ _ _ _ (hp c)
  have hX : Cert.ReferenceIdeal.Val.actX V = Cert.KernelIdeal.Val.X0 m c := by
    funext a b; exact congrFun h0 (ix3 0 a b)
  have hP : Cert.ReferenceIdeal.Val.posP V = Cert.KernelIdeal.Val.P0 m c := by
    funext a; exact congrFun h1 (ix2 0 a)
  have hQ : Cert.ReferenceIdeal.Val.wQ V = Cert.KernelIdeal.Val.mat (m ((c.tc : Thread Cert.KernelIdeal.nD Cert.KernelIdeal.τ).loc Cert.KernelIdeal.main_arg2)) := by
    funext a b; exact congrFun h2 (ix2 a b)
  have hK : Cert.ReferenceIdeal.Val.wK V = Cert.KernelIdeal.Val.mat (m ((c.tc : Thread Cert.KernelIdeal.nD Cert.KernelIdeal.τ).loc Cert.KernelIdeal.main_arg3)) := by
    funext a b; exact congrFun h3 (ix2 a b)
  have hV : Cert.ReferenceIdeal.Val.wV V = Cert.KernelIdeal.Val.mat (m ((c.tc : Thread Cert.KernelIdeal.nD Cert.KernelIdeal.τ).loc Cert.KernelIdeal.main_arg4)) := by
    funext a b; exact congrFun h4 (ix2 a b)
  have hO : Cert.ReferenceIdeal.Val.wO V = Cert.KernelIdeal.Val.mat (m ((c.tc : Thread Cert.KernelIdeal.nD Cert.KernelIdeal.τ).loc Cert.KernelIdeal.main_arg5)) := by
    funext a b; exact congrFun h5 (ix2 a b)
  funext j
  obtain ⟨z, a, b, rfl⟩ : ∃ (z : Fin 1) (a b : Fin 2048), j = ix3 z a b := ⟨j 0, j 1, j 2, by
    funext t
    match t with
    | ⟨0, _⟩ => rfl
    | ⟨1, _⟩ => rfl
    | ⟨2, _⟩ => rfl⟩
  obtain rfl : z = 0 := Subsingleton.elim _ _
  refine (Cert.ReferenceIdeal.Val.result V (fun a b => ?_) (fun a b => ?_) (fun a b => ?_) a b).trans ?_
  · rw [hX]; exact (hr a b).1
  · rw [hQ]; exact (hr a b).2.1
  · rw [hK]; exact (hr a b).2.2
  · rw [hX, hP, hQ, hK, hV, hO]
    exact (Cert.KernelIdeal.Val.result m g c a b).symm

/-- On real activations, query weights and key weights, the ideal kernel and the reference give the same result. -/
theorem algebraic : Cert.algebraic_KernelIdeal_ReferenceIdeal_pre_finite_scores := by
  intro m g m' g' hp hm
  refine ⟨fun c => Cert.KernelIdeal.Gen.W7 m g c (Proc.devRef .tc Cert.KernelIdeal.main_v32), Cert.KernelIdeal.Val.run m g, ?_⟩
  refine (θ_run Cert.ReferenceIdeal.defs _ _).mono (fun r h c => ⟨(h c).1.trans ?_, (h c).2⟩) (Cert.ReferenceIdeal.Val.run m' g')
  exact same m g (StableHlo.launchContents m' c) hp c (hm c).1 (hm c).2.1 (hm c).2.2.1 (hm c).2.2.2.1 (hm c).2.2.2.2.1 (hm c).2.2.2.2.2

/-- All claims. -/
theorem claim : Cert.Claim := ⟨Cert.Kernel.Gen.facts, Cert.KernelIdeal.Gen.facts, Cert.ReferenceIdeal.Gen.facts, preFacts,
  frame_p, frame_pi, fun m ρ _ => frame_pi m ρ trivial, frame_ri, fun m ρ _ => frame_ri m ρ trivial, preserves, algebraic⟩

end Cert.Proof

end
